-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xyz_finite [hPre_xyz_finite : Cert.Pre_xyz_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xyz_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_on_grid [hPre_on_grid : Cert.Pre_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xyz_finite [hPre_xyz_finite : Cert.Pre_xyz_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xyz_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_ExactIdeal (m : (ℓ : Loc Cert.ExactIdeal.nD Cert.ExactIdeal.τ Cert.ExactIdeal.sig) → Buf (Elt Ideal) ℓ) : Prop :=
  True

def Pre_ExactIdeal_on_grid [hPre_on_grid : Cert.Pre_on_grid.Facts] (m : (ℓ : Loc Cert.ExactIdeal.nD Cert.ExactIdeal.τ Cert.ExactIdeal.sig) → Buf (Elt Ideal) ℓ) : Prop :=
  ∀ c : Dev Cert.ExactIdeal.nD,
    (Cert.Pre_on_grid.fn (F := Ideal) (m ((c.tc : Thread Cert.ExactIdeal.nD Cert.ExactIdeal.τ).loc Cert.ExactIdeal.main_arg0)) (m ((c.tc : Thread Cert.ExactIdeal.nD Cert.ExactIdeal.τ).loc Cert.ExactIdeal.main_arg1)) (m ((c.tc : Thread Cert.ExactIdeal.nD Cert.ExactIdeal.τ).loc Cert.ExactIdeal.main_arg2)) (m ((c.tc : Thread Cert.ExactIdeal.nD Cert.ExactIdeal.τ).loc Cert.ExactIdeal.main_arg3)) (m ((c.tc : Thread Cert.ExactIdeal.nD Cert.ExactIdeal.τ).loc Cert.ExactIdeal.main_arg4)) (m ((c.tc : Thread Cert.ExactIdeal.nD Cert.ExactIdeal.τ).loc Cert.ExactIdeal.main_arg5)) (m ((c.tc : Thread Cert.ExactIdeal.nD Cert.ExactIdeal.τ).loc Cert.ExactIdeal.main_arg6)) (m ((c.tc : Thread Cert.ExactIdeal.nD Cert.ExactIdeal.τ).loc Cert.ExactIdeal.main_arg7)) (m ((c.tc : Thread Cert.ExactIdeal.nD Cert.ExactIdeal.τ).loc Cert.ExactIdeal.main_arg8)) (m ((c.tc : Thread Cert.ExactIdeal.nD Cert.ExactIdeal.τ).loc Cert.ExactIdeal.main_arg9)) (m ((c.tc : Thread Cert.ExactIdeal.nD Cert.ExactIdeal.τ).loc Cert.ExactIdeal.main_arg10)) (m ((c.tc : Thread Cert.ExactIdeal.nD Cert.ExactIdeal.τ).loc Cert.ExactIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_xyz_finite [hKernelIdeal : Cert.KernelIdeal.Facts] [hPre_xyz_finite : Cert.Pre_xyz_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xyz_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_on_grid [hKernelIdeal : Cert.KernelIdeal.Facts] [hPre_on_grid : Cert.Pre_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_xyz_finite [hReferenceIdeal : Cert.ReferenceIdeal.Facts] [hPre_xyz_finite : Cert.Pre_xyz_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xyz_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
      ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4)
      ∧ r.2.mem ((c.tc : Thread Cert.ExactIdeal.nD Cert.ExactIdeal.τ).loc Cert.ExactIdeal.main_arg5) = m ((c.tc : Thread Cert.ExactIdeal.nD Cert.ExactIdeal.τ).loc Cert.ExactIdeal.main_arg5)
      ∧ r.2.mem ((c.tc : Thread Cert.ExactIdeal.nD Cert.ExactIdeal.τ).loc Cert.ExactIdeal.main_arg6) = m ((c.tc : Thread Cert.ExactIdeal.nD Cert.ExactIdeal.τ).loc Cert.ExactIdeal.main_arg6)
      ∧ r.2.mem ((c.tc : Thread Cert.ExactIdeal.nD Cert.ExactIdeal.τ).loc Cert.ExactIdeal.main_arg7) = m ((c.tc : Thread Cert.ExactIdeal.nD Cert.ExactIdeal.τ).loc Cert.ExactIdeal.main_arg7)
      ∧ r.2.mem ((c.tc : Thread Cert.ExactIdeal.nD Cert.ExactIdeal.τ).loc Cert.ExactIdeal.main_arg8) = m ((c.tc : Thread Cert.ExactIdeal.nD Cert.ExactIdeal.τ).loc Cert.ExactIdeal.main_arg8)
      ∧ r.2.mem ((c.tc : Thread Cert.ExactIdeal.nD Cert.ExactIdeal.τ).loc Cert.ExactIdeal.main_arg9) = m ((c.tc : Thread Cert.ExactIdeal.nD Cert.ExactIdeal.τ).loc Cert.ExactIdeal.main_arg9)
      ∧ r.2.mem ((c.tc : Thread Cert.ExactIdeal.nD Cert.ExactIdeal.τ).loc Cert.ExactIdeal.main_arg10) = m ((c.tc : Thread Cert.ExactIdeal.nD Cert.ExactIdeal.τ).loc Cert.ExactIdeal.main_arg10)
      ∧ r.2.mem ((c.tc : Thread Cert.ExactIdeal.nD Cert.ExactIdeal.τ).loc Cert.ExactIdeal.main_arg11) = m ((c.tc : Thread Cert.ExactIdeal.nD Cert.ExactIdeal.τ).loc Cert.ExactIdeal.main_arg11))
      ∧ r.2.sem = fun _ => 0)

def quiescent_ExactIdeal_pre_on_grid [hExactIdeal : Cert.ExactIdeal.Facts] [hPre_on_grid : Cert.Pre_on_grid.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal_on_grid m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
      ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4)
      ∧ r.2.mem ((c.tc : Thread Cert.ExactIdeal.nD Cert.ExactIdeal.τ).loc Cert.ExactIdeal.main_arg5) = m ((c.tc : Thread Cert.ExactIdeal.nD Cert.ExactIdeal.τ).loc Cert.ExactIdeal.main_arg5)
      ∧ r.2.mem ((c.tc : Thread Cert.ExactIdeal.nD Cert.ExactIdeal.τ).loc Cert.ExactIdeal.main_arg6) = m ((c.tc : Thread Cert.ExactIdeal.nD Cert.ExactIdeal.τ).loc Cert.ExactIdeal.main_arg6)
      ∧ r.2.mem ((c.tc : Thread Cert.ExactIdeal.nD Cert.ExactIdeal.τ).loc Cert.ExactIdeal.main_arg7) = m ((c.tc : Thread Cert.ExactIdeal.nD Cert.ExactIdeal.τ).loc Cert.ExactIdeal.main_arg7)
      ∧ r.2.mem ((c.tc : Thread Cert.ExactIdeal.nD Cert.ExactIdeal.τ).loc Cert.ExactIdeal.main_arg8) = m ((c.tc : Thread Cert.ExactIdeal.nD Cert.ExactIdeal.τ).loc Cert.ExactIdeal.main_arg8)
      ∧ r.2.mem ((c.tc : Thread Cert.ExactIdeal.nD Cert.ExactIdeal.τ).loc Cert.ExactIdeal.main_arg9) = m ((c.tc : Thread Cert.ExactIdeal.nD Cert.ExactIdeal.τ).loc Cert.ExactIdeal.main_arg9)
      ∧ r.2.mem ((c.tc : Thread Cert.ExactIdeal.nD Cert.ExactIdeal.τ).loc Cert.ExactIdeal.main_arg10) = m ((c.tc : Thread Cert.ExactIdeal.nD Cert.ExactIdeal.τ).loc Cert.ExactIdeal.main_arg10)
      ∧ r.2.mem ((c.tc : Thread Cert.ExactIdeal.nD Cert.ExactIdeal.τ).loc Cert.ExactIdeal.main_arg11) = m ((c.tc : Thread Cert.ExactIdeal.nD Cert.ExactIdeal.τ).loc Cert.ExactIdeal.main_arg11))
      ∧ r.2.sem = fun _ => 0)

def preserves_Kernel_KernelIdeal : Prop :=
  True

def algebraic_KernelIdeal_ReferenceIdeal_pre_xyz_finite [hKernelIdeal : Cert.KernelIdeal.Facts] [hReferenceIdeal : Cert.ReferenceIdeal.Facts] [hPre_xyz_finite : Cert.Pre_xyz_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xyz_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ExactIdeal_pre_on_grid [hKernelIdeal : Cert.KernelIdeal.Facts] [hExactIdeal : Cert.ExactIdeal.Facts] [hPre_on_grid : Cert.Pre_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ExactIdeal.nD Cert.ExactIdeal.τ Cert.ExactIdeal.sig) → Buf (Elt Ideal) ℓ) (g' : Dev Cert.ExactIdeal.nD → PrngReg), Pre_KernelIdeal_on_grid m →
    (∀ c : Dev Cert.KernelIdeal.nD,
      m' ((c.tc : Thread Cert.ExactIdeal.nD Cert.ExactIdeal.τ).loc Cert.ExactIdeal.main_arg0) = m ((c.tc : Thread Cert.KernelIdeal.nD Cert.KernelIdeal.τ).loc Cert.KernelIdeal.main_arg0)
      ∧ m' ((c.tc : Thread Cert.ExactIdeal.nD Cert.ExactIdeal.τ).loc Cert.ExactIdeal.main_arg1) = m ((c.tc : Thread Cert.KernelIdeal.nD Cert.KernelIdeal.τ).loc Cert.KernelIdeal.main_arg1)
      ∧ m' ((c.tc : Thread Cert.ExactIdeal.nD Cert.ExactIdeal.τ).loc Cert.ExactIdeal.main_arg2) = m ((c.tc : Thread Cert.KernelIdeal.nD Cert.KernelIdeal.τ).loc Cert.KernelIdeal.main_arg2)
      ∧ m' ((c.tc : Thread Cert.ExactIdeal.nD Cert.ExactIdeal.τ).loc Cert.ExactIdeal.main_arg3) = m ((c.tc : Thread Cert.KernelIdeal.nD Cert.KernelIdeal.τ).loc Cert.KernelIdeal.main_arg3)
      ∧ m' ((c.tc : Thread Cert.ExactIdeal.nD Cert.ExactIdeal.τ).loc Cert.ExactIdeal.main_arg4) = m ((c.tc : Thread Cert.KernelIdeal.nD Cert.KernelIdeal.τ).loc Cert.KernelIdeal.main_arg4)
      ∧ m' ((c.tc : Thread Cert.ExactIdeal.nD Cert.ExactIdeal.τ).loc Cert.ExactIdeal.main_arg5) = m ((c.tc : Thread Cert.KernelIdeal.nD Cert.KernelIdeal.τ).loc Cert.KernelIdeal.main_arg5)
      ∧ m' ((c.tc : Thread Cert.ExactIdeal.nD Cert.ExactIdeal.τ).loc Cert.ExactIdeal.main_arg6) = m ((c.tc : Thread Cert.KernelIdeal.nD Cert.KernelIdeal.τ).loc Cert.KernelIdeal.main_arg6)
      ∧ m' ((c.tc : Thread Cert.ExactIdeal.nD Cert.ExactIdeal.τ).loc Cert.ExactIdeal.main_arg7) = m ((c.tc : Thread Cert.KernelIdeal.nD Cert.KernelIdeal.τ).loc Cert.KernelIdeal.main_arg7)
      ∧ m' ((c.tc : Thread Cert.ExactIdeal.nD Cert.ExactIdeal.τ).loc Cert.ExactIdeal.main_arg8) = m ((c.tc : Thread Cert.KernelIdeal.nD Cert.KernelIdeal.τ).loc Cert.KernelIdeal.main_arg8)
      ∧ m' ((c.tc : Thread Cert.ExactIdeal.nD Cert.ExactIdeal.τ).loc Cert.ExactIdeal.main_arg9) = m ((c.tc : Thread Cert.KernelIdeal.nD Cert.KernelIdeal.τ).loc Cert.KernelIdeal.main_arg9)
      ∧ m' ((c.tc : Thread Cert.ExactIdeal.nD Cert.ExactIdeal.τ).loc Cert.ExactIdeal.main_arg10) = m ((c.tc : Thread Cert.KernelIdeal.nD Cert.KernelIdeal.τ).loc Cert.KernelIdeal.main_arg10)
      ∧ m' ((c.tc : Thread Cert.ExactIdeal.nD Cert.ExactIdeal.τ).loc Cert.ExactIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ExactIdeal.defs (F := Ideal)) (onTc (τ := Cert.ExactIdeal.τ) (Cert.ExactIdeal.main (F := Ideal))) ⟨m', fun _ => 0, g'⟩ (fun r => ∀ c : Dev Cert.ExactIdeal.nD,
          r.2.mem ((c.tc : Thread Cert.ExactIdeal.nD Cert.ExactIdeal.τ).loc Cert.ExactIdeal.main_v3) = v0 c
          ∧ r.2.mem ((c.tc : Thread Cert.ExactIdeal.nD Cert.ExactIdeal.τ).loc Cert.ExactIdeal.main_v52) = v1 c
          ∧ r.2.mem ((c.tc : Thread Cert.ExactIdeal.nD Cert.ExactIdeal.τ).loc Cert.ExactIdeal.main_v48) = v2 c
          ∧ r.2.mem ((c.tc : Thread Cert.ExactIdeal.nD Cert.ExactIdeal.τ).loc Cert.ExactIdeal.main_arg0) = m' ((c.tc : Thread Cert.ExactIdeal.nD Cert.ExactIdeal.τ).loc Cert.ExactIdeal.main_arg0)
          ∧ r.2.mem ((c.tc : Thread Cert.ExactIdeal.nD Cert.ExactIdeal.τ).loc Cert.ExactIdeal.main_arg1) = m' ((c.tc : Thread Cert.ExactIdeal.nD Cert.ExactIdeal.τ).loc Cert.ExactIdeal.main_arg1)
          ∧ r.2.mem ((c.tc : Thread Cert.ExactIdeal.nD Cert.ExactIdeal.τ).loc Cert.ExactIdeal.main_arg2) = m' ((c.tc : Thread Cert.ExactIdeal.nD Cert.ExactIdeal.τ).loc Cert.ExactIdeal.main_arg2)
          ∧ r.2.mem ((c.tc : Thread Cert.ExactIdeal.nD Cert.ExactIdeal.τ).loc Cert.ExactIdeal.main_arg3) = m' ((c.tc : Thread Cert.ExactIdeal.nD Cert.ExactIdeal.τ).loc Cert.ExactIdeal.main_arg3)
          ∧ r.2.mem ((c.tc : Thread Cert.ExactIdeal.nD Cert.ExactIdeal.τ).loc Cert.ExactIdeal.main_arg4) = m' ((c.tc : Thread Cert.ExactIdeal.nD Cert.ExactIdeal.τ).loc Cert.ExactIdeal.main_arg4)
          ∧ r.2.mem ((c.tc : Thread Cert.ExactIdeal.nD Cert.ExactIdeal.τ).loc Cert.ExactIdeal.main_arg5) = m' ((c.tc : Thread Cert.ExactIdeal.nD Cert.ExactIdeal.τ).loc Cert.ExactIdeal.main_arg5)
          ∧ r.2.mem ((c.tc : Thread Cert.ExactIdeal.nD Cert.ExactIdeal.τ).loc Cert.ExactIdeal.main_arg6) = m' ((c.tc : Thread Cert.ExactIdeal.nD Cert.ExactIdeal.τ).loc Cert.ExactIdeal.main_arg6)
          ∧ r.2.mem ((c.tc : Thread Cert.ExactIdeal.nD Cert.ExactIdeal.τ).loc Cert.ExactIdeal.main_arg7) = m' ((c.tc : Thread Cert.ExactIdeal.nD Cert.ExactIdeal.τ).loc Cert.ExactIdeal.main_arg7)
          ∧ r.2.mem ((c.tc : Thread Cert.ExactIdeal.nD Cert.ExactIdeal.τ).loc Cert.ExactIdeal.main_arg8) = m' ((c.tc : Thread Cert.ExactIdeal.nD Cert.ExactIdeal.τ).loc Cert.ExactIdeal.main_arg8)
          ∧ r.2.mem ((c.tc : Thread Cert.ExactIdeal.nD Cert.ExactIdeal.τ).loc Cert.ExactIdeal.main_arg9) = m' ((c.tc : Thread Cert.ExactIdeal.nD Cert.ExactIdeal.τ).loc Cert.ExactIdeal.main_arg9)
          ∧ r.2.mem ((c.tc : Thread Cert.ExactIdeal.nD Cert.ExactIdeal.τ).loc Cert.ExactIdeal.main_arg10) = m' ((c.tc : Thread Cert.ExactIdeal.nD Cert.ExactIdeal.τ).loc Cert.ExactIdeal.main_arg10)
          ∧ r.2.mem ((c.tc : Thread Cert.ExactIdeal.nD Cert.ExactIdeal.τ).loc Cert.ExactIdeal.main_arg11) = m' ((c.tc : Thread Cert.ExactIdeal.nD Cert.ExactIdeal.τ).loc Cert.ExactIdeal.main_arg11))

def Claim : Prop :=
  ∃ (hKernel : Cert.Kernel.Facts) (hKernelIdeal : Cert.KernelIdeal.Facts) (hReferenceIdeal : Cert.ReferenceIdeal.Facts) (hExactIdeal : Cert.ExactIdeal.Facts) (hPre_xyz_finite : Cert.Pre_xyz_finite.Facts) (hPre_on_grid : Cert.Pre_on_grid.Facts),
    quiescent_Kernel (hKernel := hKernel)
    ∧ quiescent_KernelIdeal (hKernelIdeal := hKernelIdeal)
    ∧ quiescent_KernelIdeal_pre_xyz_finite (hKernelIdeal := hKernelIdeal) (hPre_xyz_finite := hPre_xyz_finite)
    ∧ quiescent_KernelIdeal_pre_on_grid (hKernelIdeal := hKernelIdeal) (hPre_on_grid := hPre_on_grid)
    ∧ quiescent_ReferenceIdeal (hReferenceIdeal := hReferenceIdeal)
    ∧ quiescent_ReferenceIdeal_pre_xyz_finite (hReferenceIdeal := hReferenceIdeal) (hPre_xyz_finite := hPre_xyz_finite)
    ∧ quiescent_ExactIdeal (hExactIdeal := hExactIdeal)
    ∧ quiescent_ExactIdeal_pre_on_grid (hExactIdeal := hExactIdeal) (hPre_on_grid := hPre_on_grid)
    ∧ preserves_Kernel_KernelIdeal
    ∧ algebraic_KernelIdeal_ReferenceIdeal_pre_xyz_finite (hKernelIdeal := hKernelIdeal) (hReferenceIdeal := hReferenceIdeal) (hPre_xyz_finite := hPre_xyz_finite)
    ∧ algebraic_KernelIdeal_ExactIdeal_pre_on_grid (hKernelIdeal := hKernelIdeal) (hExactIdeal := hExactIdeal) (hPre_on_grid := hPre_on_grid)
-- ==== Pre_on_grid.lean ====
abbrev S8192x3 : Shape := ⟨2, ![8192, 3]⟩
abbrev S8192x128 : Shape := ⟨2, ![8192, 128]⟩
abbrev S128x10 : Shape := ⟨2, ![128, 10]⟩
abbrev S10 : Shape := ⟨1, ![10]⟩
abbrev S128x128 : Shape := ⟨2, ![128, 128]⟩
abbrev S128 : Shape := ⟨1, ![128]⟩
abbrev S128x15 : Shape := ⟨2, ![128, 15]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x128 .f32) (main_arg2 : FVec F S8192x3 .f32) (main_arg3 : FVec F S128x10 .f32) (main_arg4 : FVec F S10 .f32) (main_arg5 : FVec F S128x10 .f32) (main_arg6 : FVec F S10 .f32) (main_arg7 : FVec F S128x128 .f32) (main_arg8 : FVec F S128 .f32) (main_arg9 : FVec F S128x128 .f32) (main_arg10 : FVec F S128 .f32) (main_arg11 : FVec F S128x15 .f32) : IVec S_ 1 :=
  let main_cst : FVec F S_ .f32 := constant S_ .f32 0x41000000#32
  let main_v0 : FVec F S8192x3 .f32 := broadcastInDim S8192x3 ![] bcast_S_S8192x3 main_cst
  let main_v1 : FVec F S8192x3 .f32 := mulf main_arg0 main_v0
  let main_v2 : FVec F S8192x3 .f32 := Host.floor main_v1
  let main_cst_0 : FVec F S_ .f32 := constant S_ .f32 0x41000000#32
  let main_v3 : FVec F S8192x3 .f32 := broadcastInDim S8192x3 ![] bcast_S_S8192x3 main_cst_0
  let main_v4 : FVec F S8192x3 .f32 := mulf main_arg0 main_v3
  let main_v5 : IVec S8192x3 1 := cmpf .oeq main_v2 main_v4
  let main_cst_1 : FVec F S_ .f32 := constant S_ .f32 0x00000000#32
  let main_v6 : FVec F S8192x3 .f32 := broadcastInDim S8192x3 ![] bcast_S_S8192x3 main_cst_1
  let main_v7 : IVec S8192x3 1 := cmpf .oge main_arg0 main_v6
  let main_v8 : IVec S8192x3 1 := andi main_v5 main_v7
  let main_cst_2 : FVec F S_ .f32 := constant S_ .f32 0x42100000#32
  let main_v9 : FVec F S8192x3 .f32 := broadcastInDim S8192x3 ![] bcast_S_S8192x3 main_cst_2
  let main_v10 : IVec S8192x3 1 := cmpf .ole main_arg0 main_v9
  let main_v11 : IVec S8192x3 1 := andi main_v8 main_v10
  let main_c : IVec S_ 1 := constantI S_ 1 1#1
  let main_v12 : IVec S_ 1 := (fun x v => Host.reduce IntOp.andi x v reducesTo_S8192x3_S_d0_1 h_S_) main_v11 main_c
  main_v12
-- ==== Pre_xyz_finite.lean ====
abbrev S8192x3 : Shape := ⟨2, ![8192, 3]⟩
abbrev S8192x128 : Shape := ⟨2, ![8192, 128]⟩
abbrev S128x10 : Shape := ⟨2, ![128, 10]⟩
abbrev S10 : Shape := ⟨1, ![10]⟩
abbrev S128x128 : Shape := ⟨2, ![128, 128]⟩
abbrev S128 : Shape := ⟨1, ![128]⟩
abbrev S128x15 : Shape := ⟨2, ![128, 15]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x128 .f32) (main_arg2 : FVec F S8192x3 .f32) (main_arg3 : FVec F S128x10 .f32) (main_arg4 : FVec F S10 .f32) (main_arg5 : FVec F S128x10 .f32) (main_arg6 : FVec F S10 .f32) (main_arg7 : FVec F S128x128 .f32) (main_arg8 : FVec F S128 .f32) (main_arg9 : FVec F S128x128 .f32) (main_arg10 : FVec F S128 .f32) (main_arg11 : FVec F S128x15 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S8192x128 : Shape := ⟨2, ![8192, 128]⟩
abbrev S128x10 : Shape := ⟨2, ![128, 10]⟩
abbrev S10 : Shape := ⟨1, ![10]⟩
abbrev S128x128 : Shape := ⟨2, ![128, 128]⟩
abbrev S128 : Shape := ⟨1, ![128]⟩
abbrev S128x15 : Shape := ⟨2, ![128, 15]⟩
abbrev S_ : Shape := ⟨0, ![]⟩
abbrev S8192x8 : Shape := ⟨2, ![8192, 8]⟩
abbrev S8x8192 : Shape := ⟨2, ![8, 8192]⟩
abbrev S1x10 : Shape := ⟨2, ![1, 10]⟩
abbrev S1x128 : Shape := ⟨2, ![1, 128]⟩
abbrev S8192x10 : Shape := ⟨2, ![8192, 10]⟩
abbrev S8192x12 : Shape := ⟨2, ![8192, 12]⟩
abbrev S8192x1 : Shape := ⟨2, ![8192, 1]⟩
abbrev S64x1x128 : Shape := ⟨3, ![64, 1, 128]⟩
abbrev S128x8 : Shape := ⟨2, ![128, 8]⟩
abbrev S128x3 : Shape := ⟨2, ![128, 3]⟩
abbrev S128x12 : Shape := ⟨2, ![128, 12]⟩
abbrev S128x1 : Shape := ⟨2, ![128, 1]⟩
abbrev S1x1x128 : Shape := ⟨3, ![1, 1, 128]⟩
abbrev S128x8192 : Shape := ⟨2, ![128, 8192]⟩
abbrev S1x128x3 : Shape := ⟨3, ![1, 128, 3]⟩
abbrev S1 : Shape := ⟨1, ![1]⟩
abbrev S1x1x1 : Shape := ⟨3, ![1, 1, 1]⟩
abbrev S8192 : Shape := ⟨1, ![8192]⟩
abbrev S1x8192 : Shape := ⟨2, ![1, 8192]⟩
abbrev S98304 : Shape := ⟨1, ![98304]⟩
abbrev S512 : Shape := ⟨1, ![512]⟩
abbrev S3072 : Shape := ⟨1, ![3072]⟩
abbrev S16 : Shape := ⟨1, ![16]⟩
abbrev S64x1x1 : Shape := ⟨3, ![64, 1, 1]⟩
abbrev S64 : Shape := ⟨1, ![64]⟩

abbrev nBuf : Table → Nat
  | .hbm => 43
  | .local .tc .vmem => 29
  | .local .scVector .vmem => 4
  | _ => 0

abbrev bufTy : (tb : Table) → Fin (nBuf tb) → BufTy
  | .hbm, ⟨0, _⟩ => ⟨S8192x3, .f32⟩
  | .hbm, ⟨1, _⟩ => ⟨S8192x128, .f32⟩
  | .hbm, ⟨2, _⟩ => ⟨S8192x3, .f32⟩
  | .hbm, ⟨3, _⟩ => ⟨S128x10, .f32⟩
  | .hbm, ⟨4, _⟩ => ⟨S10, .f32⟩
  | .hbm, ⟨5, _⟩ => ⟨S128x10, .f32⟩
  | .hbm, ⟨6, _⟩ => ⟨S10, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x15, .f32⟩
  | .hbm, ⟨12, _⟩ => ⟨S_, .i32⟩
  | .hbm, ⟨13, _⟩ => ⟨S_, .f32⟩
  | .hbm, ⟨14, _⟩ => ⟨S8192x8, .f32⟩
  | .hbm, ⟨15, _⟩ => ⟨S8x8192, .f32⟩
  | .hbm, ⟨16, _⟩ => ⟨S1x10, .f32⟩
  | .hbm, ⟨17, _⟩ => ⟨S1x10, .f32⟩
  | .hbm, ⟨18, _⟩ => ⟨S1x128, .f32⟩
  | .hbm, ⟨19, _⟩ => ⟨S1x128, .f32⟩
  | .hbm, ⟨20, _⟩ => ⟨S8192x10, .f32⟩
  | .hbm, ⟨21, _⟩ => ⟨S8192x10, .f32⟩
  | .hbm, ⟨22, _⟩ => ⟨S8192x12, .i32⟩
  | .hbm, ⟨23, _⟩ => ⟨S8192x12, .f32⟩
  | .hbm, ⟨24, _⟩ => ⟨S8192x1, .f32⟩
  | .hbm, ⟨25, _⟩ => ⟨S64x1x128, .f32⟩
  | .hbm, ⟨26, _⟩ => ⟨S8192, .f32⟩
  | .hbm, ⟨27, _⟩ => ⟨S98304, .i32⟩
  | .hbm, ⟨28, _⟩ => ⟨S98304, .f32⟩
  | .hbm, ⟨29, _⟩ => ⟨S512, .f32⟩
  | .hbm, ⟨30, _⟩ => ⟨S_, .f32⟩
  | .hbm, ⟨31, _⟩ => ⟨S_, .f32⟩
  | .hbm, ⟨32, _⟩ => ⟨S64x1x1, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local .tc .vmem, ⟨0, _⟩ => ⟨S128x8, .f32⟩
  | .local .tc .vmem, ⟨1, _⟩ => ⟨S128x8, .f32⟩
  | .local .tc .vmem, ⟨2, _⟩ => ⟨S8x8192, .f32⟩
  | .local .tc .vmem, ⟨3, _⟩ => ⟨S128x128, .f32⟩
  | .local .tc .vmem, ⟨4, _⟩ => ⟨S128x128, .f32⟩
  | .local .tc .vmem, ⟨5, _⟩ => ⟨S128x3, .f32⟩
  | .local .tc .vmem, ⟨6, _⟩ => ⟨S128x3, .f32⟩
  | .local .tc .vmem, ⟨7, _⟩ => ⟨S128x10, .f32⟩
  | .local .tc .vmem, ⟨8, _⟩ => ⟨S1x10, .f32⟩
  | .local .tc .vmem, ⟨9, _⟩ => ⟨S128x10, .f32⟩
  | .local .tc .vmem, ⟨10, _⟩ => ⟨S1x10, .f32⟩
  | .local .tc .vmem, ⟨11, _⟩ => ⟨S128x128, .f32⟩
  | .local .tc .vmem, ⟨12, _⟩ => ⟨S1x128, .f32⟩
  | .local .tc .vmem, ⟨13, _⟩ => ⟨S128x128, .f32⟩
  | .local .tc .vmem, ⟨14, _⟩ => ⟨S1x128, .f32⟩
  | .local .tc .vmem, ⟨15, _⟩ => ⟨S128x15, .f32⟩
  | .local .tc .vmem, ⟨16, _⟩ => ⟨S128x10, .f32⟩
  | .local .tc .vmem, ⟨17, _⟩ => ⟨S128x10, .f32⟩
  | .local .tc .vmem, ⟨18, _⟩ => ⟨S128x10, .f32⟩
  | .local .tc .vmem, ⟨19, _⟩ => ⟨S128x10, .f32⟩
  | .local .tc .vmem, ⟨20, _⟩ => ⟨S128x12, .i32⟩
  | .local .tc .vmem, ⟨21, _⟩ => ⟨S128x12, .i32⟩
  | .local .tc .vmem, ⟨22, _⟩ => ⟨S128x12, .f32⟩
  | .local .tc .vmem, ⟨23, _⟩ => ⟨S128x12, .f32⟩
  | .local .tc .vmem, ⟨24, _⟩ => ⟨S128x1, .f32⟩
  | .local .tc .vmem, ⟨25, _⟩ => ⟨S128x1, .f32⟩
  | .local .tc .vmem, ⟨26, _⟩ => ⟨S1x1x128, .f32⟩
  | .local .tc .vmem, ⟨27, _⟩ => ⟨S1x1x128, .f32⟩
  | .local .tc .vmem, ⟨28, _⟩ => ⟨S128x8192, .i32⟩
  | .local .scVector .vmem, ⟨0, _⟩ => ⟨S8192, .f32⟩
  | .local .scVector .vmem, ⟨1, _⟩ => ⟨S3072, .i32⟩
  | .local .scVector .vmem, ⟨2, _⟩ => ⟨S3072, .f32⟩
  | .local .scVector .vmem, ⟨3, _⟩ => ⟨S16, .f32⟩
  | _, _ => ⟨S8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v6_4 : Ref sig .tc := ⟨.hbm, 24, rfl⟩
abbrev main_v6_5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v7_scv : Ref sig .scVector := ⟨.hbm, 26, rfl⟩
abbrev main_v8_scv : Ref sig .scVector := ⟨.hbm, 27, rfl⟩
abbrev main_v9_scv : Ref sig .scVector := ⟨.hbm, 28, rfl⟩
abbrev main_v10_scv : Ref sig .scVector := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_53 : BitVec 32 := 0#32
  let c12_i32 : BitVec 32 := 12#32
  let v91 : BitVec 32 := Scalar.addi c0_i32_53 c12_i32
  let c1_i32 : BitVec 32 := 1#32
  ⟨c0_i32_53, v91, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x10 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x12 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x12 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  ![v2.toNat]
@[reducible] def k1_t1_loop : Scf.Loop 32 :=
  let c0_i32 : BitVec 32 := 0#32
  let c192_i32 : BitVec 32 := 192#32
  let v4 : BitVec 32 := Scalar.addi c0_i32 c192_i32
  let c1_i32 : BitVec 32 := 1#32
  ⟨c0_i32, v4, c1_i32⟩
def k1_off2 (k1_t1 : Fin k1_t1_loop.trips) : Fin 1 → Nat :=
  let c0_i32 : BitVec 32 := 0#32
  let c1_i32 : BitVec 32 := 1#32
  let arg10 : BitVec 32 := Scf.iv c0_i32 c1_i32 k1_t1
  let c16_i32_1 : BitVec 32 := 16#32
  let v8 : BitVec 32 := Scalar.muli arg10 c16_i32_1
  let v9 : Index := Scalar.indexCast v8
  ![v9.toNat]

def k1_chk1 (v10 : IVec S16 32) : Prop :=
  (∀ a x, ((![v10] : Fin 1 → IVec S16 32) a x).toNat < S8192.size a)
theorem k1_idx1_inb : ∀ (v10 : IVec S16 32) (k1_hw1 : k1_chk1 v10), ∀ a x, ((![v10] : Fin 1 → IVec S16 32) a x).toNat < S8192.size a := fun v10 k1_hw1 => k1_hw1
def k1_off3 (k1_t1 : Fin k1_t1_loop.trips) : Fin 1 → Nat :=
  let c0_i32 : BitVec 32 := 0#32
  let c1_i32 : BitVec 32 := 1#32
  let arg10 : BitVec 32 := Scf.iv c0_i32 c1_i32 k1_t1
  let c16_i32_2 : BitVec 32 := 16#32
  let v12 : BitVec 32 := Scalar.muli arg10 c16_i32_2
  let v13 : Index := Scalar.indexCast v12
  ![v13.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v7 : BitVec 32 := Scalar.muli v1 c16_i32
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x3 : Shape := ⟨2, ![8192, 3]⟩
abbrev S8192x128 : Shape := ⟨2, ![8192, 128]⟩
abbrev S128x10 : Shape := ⟨2, ![128, 10]⟩
abbrev S10 : Shape := ⟨1, ![10]⟩
abbrev S128x128 : Shape := ⟨2, ![128, 128]⟩
abbrev S128 : Shape := ⟨1, ![128]⟩
abbrev S128x15 : Shape := ⟨2, ![128, 15]⟩
abbrev S3 : Shape := ⟨1, ![3]⟩
abbrev S8192x10 : Shape := ⟨2, ![8192, 10]⟩
abbrev S1x10 : Shape := ⟨2, ![1, 10]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S8192x8192 : Shape := ⟨2, ![8192, 8192]⟩
abbrev S1x8192 : Shape := ⟨2, ![1, 8192]⟩
abbrev S8192x12 : Shape := ⟨2, ![8192, 12]⟩
abbrev S1x128 : Shape := ⟨2, ![1, 128]⟩
abbrev S8192x15 : Shape := ⟨2, ![8192, 15]⟩
abbrev S8192x12x1 : Shape := ⟨3, ![8192, 12, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x128, .f32⟩
  | .hbm, ⟨2, _⟩ => ⟨S8192x3, .f32⟩
  | .hbm, ⟨3, _⟩ => ⟨S128x10, .f32⟩
  | .hbm, ⟨4, _⟩ => ⟨S10, .f32⟩
  | .hbm, ⟨5, _⟩ => ⟨S128x10, .f32⟩
  | .hbm, ⟨6, _⟩ => ⟨S10, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x15, .f32⟩
  | .hbm, ⟨12, _⟩ => ⟨S3, .f32⟩
  | .hbm, ⟨13, _⟩ => ⟨S8192x10, .f32⟩
  | .hbm, ⟨14, _⟩ => ⟨S1x10, .f32⟩
  | .hbm, ⟨15, _⟩ => ⟨S8192x10, .f32⟩
  | .hbm, ⟨16, _⟩ => ⟨S8192x10, .f32⟩
  | .hbm, ⟨17, _⟩ => ⟨S8192x3, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S3x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .i32⟩
  | .hbm, ⟨39, _⟩ => ⟨S8192x12, .i32⟩
  | .hbm, ⟨40, _⟩ => ⟨S8192x12, .i32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S8192x15, .f32⟩
  | .hbm, ⟨50, _⟩ => ⟨S8192x3, .f32⟩
  | .hbm, ⟨51, _⟩ => ⟨S8192x12, .f32⟩
  | .hbm, ⟨52, _⟩ => ⟨S8192, .f32⟩
  | .hbm, ⟨53, _⟩ => ⟨S_, .i32⟩
  | .hbm, ⟨54, _⟩ => ⟨S8192x12, .i32⟩
  | .hbm, ⟨55, _⟩ => ⟨S8192x12, .i1⟩
  | .hbm, ⟨56, _⟩ => ⟨S_, .i32⟩
  | .hbm, ⟨57, _⟩ => ⟨S8192x12, .i32⟩
  | .hbm, ⟨58, _⟩ => ⟨S8192x12, .i32⟩
  | .hbm, ⟨59, _⟩ => ⟨S8192x12, .i32⟩
  | .hbm, ⟨60, _⟩ => ⟨S8192x12x1, .i32⟩
  | .hbm, ⟨61, _⟩ => ⟨S8192x12, .f32⟩
  | .hbm, ⟨62, _⟩ => ⟨S8192x1, .f32⟩
  | .hbm, ⟨63, _⟩ => ⟨S8192x12, .f32⟩
  | .hbm, ⟨64, _⟩ => ⟨S8192x12, .f32⟩
  | .hbm, ⟨65, _⟩ => ⟨S8192x12, .f32⟩
  | .hbm, ⟨66, _⟩ => ⟨S8192x12, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192x3, .f32⟩
  | .hbm, ⟨72, _⟩ => ⟨S8192x3, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192x10, .f32⟩
  | .hbm, ⟨81, _⟩ => ⟨S1x10, .f32⟩
  | .hbm, ⟨82, _⟩ => ⟨S8192x10, .f32⟩
  | .hbm, ⟨83, _⟩ => ⟨S8192x10, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_values : Ref sig .tc := ⟨.hbm, 39, rfl⟩
abbrev main_indices : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== ExactIdeal.lean ====
abbrev S8192x3 : Shape := ⟨2, ![8192, 3]⟩
abbrev S8192x128 : Shape := ⟨2, ![8192, 128]⟩
abbrev S128x10 : Shape := ⟨2, ![128, 10]⟩
abbrev S10 : Shape := ⟨1, ![10]⟩
abbrev S128x128 : Shape := ⟨2, ![128, 128]⟩
abbrev S128 : Shape := ⟨1, ![128]⟩
abbrev S128x15 : Shape := ⟨2, ![128, 15]⟩
abbrev S3 : Shape := ⟨1, ![3]⟩
abbrev S8192x10 : Shape := ⟨2, ![8192, 10]⟩
abbrev S1x10 : Shape := ⟨2, ![1, 10]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S8192x8192 : Shape := ⟨2, ![8192, 8192]⟩
abbrev S1x8192 : Shape := ⟨2, ![1, 8192]⟩
abbrev S8192x12 : Shape := ⟨2, ![8192, 12]⟩
abbrev S1x128 : Shape := ⟨2, ![1, 128]⟩
abbrev S8192x15 : Shape := ⟨2, ![8192, 15]⟩
abbrev S8192x12x1 : Shape := ⟨3, ![8192, 12, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x128, .f32⟩
  | .hbm, ⟨2, _⟩ => ⟨S8192x3, .f32⟩
  | .hbm, ⟨3, _⟩ => ⟨S128x10, .f32⟩
  | .hbm, ⟨4, _⟩ => ⟨S10, .f32⟩
  | .hbm, ⟨5, _⟩ => ⟨S128x10, .f32⟩
  | .hbm, ⟨6, _⟩ => ⟨S10, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x15, .f32⟩
  | .hbm, ⟨12, _⟩ => ⟨S3, .f32⟩
  | .hbm, ⟨13, _⟩ => ⟨S8192x10, .f32⟩
  | .hbm, ⟨14, _⟩ => ⟨S1x10, .f32⟩
  | .hbm, ⟨15, _⟩ => ⟨S8192x10, .f32⟩
  | .hbm, ⟨16, _⟩ => ⟨S8192x10, .f32⟩
  | .hbm, ⟨17, _⟩ => ⟨S8192x3, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S3x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x12, .f32⟩
  | .hbm, ⟨33, _⟩ => ⟨S8192x12, .i32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S8192x15, .f32⟩
  | .hbm, ⟨43, _⟩ => ⟨S8192x3, .f32⟩
  | .hbm, ⟨44, _⟩ => ⟨S8192x12, .f32⟩
  | .hbm, ⟨45, _⟩ => ⟨S8192, .f32⟩
  | .hbm, ⟨46, _⟩ => ⟨S_, .i32⟩
  | .hbm, ⟨47, _⟩ => ⟨S8192x12, .i32⟩
  | .hbm, ⟨48, _⟩ => ⟨S8192x12, .i1⟩
  | .hbm, ⟨49, _⟩ => ⟨S_, .i32⟩
  | .hbm, ⟨50, _⟩ => ⟨S8192x12, .i32⟩
  | .hbm, ⟨51, _⟩ => ⟨S8192x12, .i32⟩
  | .hbm, ⟨52, _⟩ => ⟨S8192x12, .i32⟩
  | .hbm, ⟨53, _⟩ => ⟨S8192x12x1, .i32⟩
  | .hbm, ⟨54, _⟩ => ⟨S8192x12, .f32⟩
  | .hbm, ⟨55, _⟩ => ⟨S8192x1, .f32⟩
  | .hbm, ⟨56, _⟩ => ⟨S8192x12, .f32⟩
  | .hbm, ⟨57, _⟩ => ⟨S8192x12, .f32⟩
  | .hbm, ⟨58, _⟩ => ⟨S8192x12, .f32⟩
  | .hbm, ⟨59, _⟩ => ⟨S8192x12, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x3, .f32⟩
  | .hbm, ⟨65, _⟩ => ⟨S8192x3, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192x10, .f32⟩
  | .hbm, ⟨74, _⟩ => ⟨S1x10, .f32⟩
  | .hbm, ⟨75, _⟩ => ⟨S8192x10, .f32⟩
  | .hbm, ⟨76, _⟩ => ⟨S8192x10, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_values : Ref sig .tc := ⟨.hbm, 32, rfl⟩
abbrev main_indices : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.Base.lean ====
/-
  The program as the launch theorem sees it, the resource algebra of the proof, and the values the TensorCore's
  kernel leaves: names only, shared by the modules of this directory.
-/
module

public import proofs.«01_k».proof.Defs
public import Idealize.ShloMosaic.Lib.SparseCore.Quiescent
public import Idealize.ShloMosaic.Lib.SparseCore.Ops
public import Idealize.ShloMosaic.Lib.SparseCore.Threads
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UR2 : Type := UP × Counters
abbrev UU : Type := UH × UR2

local notation "𝕄" => MT nD τ sig (HIx 1) (Elt F) ℕ UU ℕ

/-- The handshakes' rounds library, the left factor. -/
abbrev EH : Emb UH (MT nD τ sig (HIx 1) (Elt F) ℕ UU ℕ) := embL
/-- The pipeline's, the left of the right factor. -/
def EP : Emb UP (MT nD τ sig (HIx 1) (Elt F) ℕ UU ℕ) := (Emb.inl : Emb UP UR2).trans embR

instance EP_landsIn : (EP : Emb UP 𝕄).LandsIn (upEmb : UEmb _ 𝕄) := by unfold EP; infer_instance

/-! ## What the TensorCore's kernel leaves at one grid point -/

section Values

variable [FloatOps F]

/-- One round of the selection: the greatest key below the last, and its lane recorded in column `k`. -/
def stepRound (X : Vec F S128x8192 .i32) (k : Fin k0_t1_loop.trips) (a : IVec S128x1 32 × IVec S128x12 32) :
    IVec S128x1 32 × IVec S128x12 32 := (k0_pay4 (F := F) a.1 X, k0_pay5 (F := F) k a.1 a.2 X)

/-- The carried pair before round `k`. -/
def roundsAt (X : Vec F S128x8192 .i32) : ℕ → IVec S128x1 32 × IVec S128x12 32
  | 0 => (k0_pay2, k0_pay3)
  | k + 1 => if h : k < k0_t1_loop.trips then stepRound (F := F) X ⟨k, h⟩ (roundsAt X k) else roundsAt X k

theorem roundsAt_succ (X : Vec F S128x8192 .i32) (k : Fin k0_t1_loop.trips) :
    roundsAt (F := F) X (k.val + 1) = stepRound (F := F) X k (roundsAt (F := F) X k.val) := by
  rw [roundsAt]; exact dif_pos k.isLt

/-- The keys of a block of 128 points against all. -/
def keysOf (x0 : Vec F S128x8 .f32) (x1 : Vec F S8x8192 .f32) : Vec F S128x8192 .i32 :=
  k0_pay1 (k0_pay15 x1) (k0_pay16 x0 x1) (k0_pay17 x0)

/-- The neighbours' indices of a block of 128 points. -/
def idxOf (x0 : Vec F S128x8 .f32) (x1 : Vec F S8x8192 .f32) : Vec F S128x12 .i32 :=
  (roundsAt (F := F) (keysOf x0 x1) k0_t1_loop.trips).2

end Values

end Cert.Proof

end
-- ==== Proof.TcBody.lean ====
/-
  The TensorCore kernel's body at one grid point: on whole staging buffers it runs to its outputs at the values named
  in `Base.lean`; the loop of the selection by its invariant, the carried pair equal to `roundsAt`.
-/
module

public import proofs.«01_k».proof.Proof.Base
public import Idealize.ShloMosaic.Lib.Pipeline.FrameBody
public import Idealize.ShloMosaic.Lib.Pipeline.Value
public import Idealize.ShloMosaic.Lib.Ring

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The hidden features of a block through the three layers: what the split of the last layer reads. -/
def hidOf (x2 : Vec F S128x128 .f32) (x8 : Vec F S128x128 .f32) (x9 : Vec F S1x128 .f32) (x10 : Vec F S128x128 .f32) (x11 : Vec F S1x128 .f32) :
    FVec F S128x128 .f32 := k0_pay9 x2 x8 x9 x10 x11
/-- The targets `gray + local` of a block. -/
def tOf (x2 : Vec F S128x128 .f32) (x3 : Vec F S128x3 .f32) (x8 : Vec F S128x128 .f32) (x9 : Vec F S1x128 .f32) (x10 : Vec F S128x128 .f32) (x11 : Vec F S1x128 .f32)
    (x12 : Vec F S128x15 .f32) : FVec F S128x12 .f32 := k0_pay12 (hidOf x2 x8 x9 x10 x11) x12 (constant S128x15 .f32 0x00000000#32) x3
/-- The colour loss of a block, on every lane. -/
def dsumOf (x2 : Vec F S128x128 .f32) (x3 : Vec F S128x3 .f32) (x8 : Vec F S128x128 .f32) (x9 : Vec F S1x128 .f32) (x10 : Vec F S128x128 .f32) (x11 : Vec F S1x128 .f32)
    (x12 : Vec F S128x15 .f32) : FVec F S1x1x128 .f32 := k0_pay13 (hidOf x2 x8 x9 x10 x11) x12 (constant S128x15 .f32 0x00000000#32) x3

/-- The selection loop's invariant: the keys held, the carried pair at `roundsAt`. -/
def invSel (c : Dev nD) (arg20 : Memref sig .tc .vmem S128x8192 .i32) (X : Vec F S128x8192 .i32)
    (k : Nat) (acc : IVec S128x1 32 × IVec S128x12 32) : sProp 𝕄 :=
  iprop((∃ f, ⌜arg20.view.read (Elt F) f = X⌝ ∗ (arg20.view.loc (c.tc : Thread nD τ) ↦[arg20.view.set]{fullShare} f)) ∗ ⌜acc = roundsAt (F := F) X k⌝)

theorem zeros1 : (![0] : Fin 1 → Nat) = fun _ => 0 := by funext a; fin_cases a; rfl
theorem zeros2 : (![0, 0] : Fin 2 → Nat) = fun _ => 0 := by funext a; fin_cases a <;> rfl
theorem zeros3 : (![0, 0, 0] : Fin 3 → Nat) = fun _ => 0 := by funext a; fin_cases a <;> rfl

/-- A load of all of a whole memref reads its contents; -/
theorem readAt_whole {S : Shape} {e : EltTy} {off : Fin S.rank → Nat} (h : off = fun _ => 0) {arg : Memref sig .tc .vmem S e} (harg : arg.IsWhole)
    (x : Vec F S e) (inb : ∀ a, off a + S.size a ≤ S.size a) :
    arg.view.readAt (Elt F) (Rect.unit off S.size inb).toLoadRect (harg.unread x) = x :=
  (View.readAt_eq_ld _ _ _).trans ((View.ld_unit_zero h inb _).trans (harg.read_unread x))
/-- at any contents. -/
theorem readAt_whole' {S : Shape} {e : EltTy} {off : Fin S.rank → Nat} (h : off = fun _ => 0) (v : View sig .tc .vmem S e)
    (f : v.ty.Contents (Elt F)) (inb : ∀ a, off a + S.size a ≤ S.size a) :
    v.readAt (Elt F) (Rect.unit off S.size inb).toLoadRect f = v.read (Elt F) f :=
  (View.readAt_eq_ld _ _ _).trans (View.ld_unit_zero h inb _)
/-- What a store of all of a memref leaves is what was stored. -/
theorem read_stored {S : Shape} {e : EltTy} {off : Fin S.rank → Nat} (h : off = fun _ => 0) (v : View sig .tc .vmem S e)
    (f : v.ty.Contents (Elt F)) (x : Vec F S e) (inb : ∀ a, off a + S.size a ≤ S.size a) :
    v.read (Elt F) (v.writes (Elt F) f [⟨Rect.unit off S.size inb, x⟩]) = x := by
  rw [View.read_writes_eq_canon _ _ _ fun y => ⟨_, List.mem_singleton_self _, View.mem_set_unit_zero h inb y⟩]
  exact View.canon_unit_zero h inb x
/-- A whole memref owned at `x` is its location at `x` unread; -/
theorem owns_out {S : Shape} {e : EltTy} {arg : Memref sig .tc .vmem S e} (harg : arg.IsWhole) (c : Dev nD) (x : Vec F S e) :
    (owns (c.tc : Thread nD τ) arg fullShare x : sProp 𝕄) ⊢ arg.view.loc (c.tc : Thread nD τ) ↦[arg.view.set]{fullShare} harg.unread x := by
  unfold owns
  iintro ⟨%f, %hf, H⟩
  obtain rfl := harg.eq_unread hf
  iexact H
/-- and back. -/
theorem owns_in {S : Shape} {e : EltTy} {arg : Memref sig .tc .vmem S e} (harg : arg.IsWhole) (c : Dev nD) (x : Vec F S e) :
    (arg.view.loc (c.tc : Thread nD τ) ↦[arg.view.set]{fullShare} harg.unread x : sProp 𝕄) ⊢ owns (c.tc : Thread nD τ) arg fullShare x := by
  unfold owns
  iintro H
  iexists _; isplitr; · ipureintro; exact harg.read_unread _
  iexact H
/-- A memref owned at what its contents read. -/
theorem owns_of {S : Shape} {e : EltTy} (arg : Memref sig .tc .vmem S e) (c : Dev nD) {x : Vec F S e} {f : arg.view.ty.Contents (Elt F)}
    (h : arg.view.read (Elt F) f = x) :
    (arg.view.loc (c.tc : Thread nD τ) ↦[arg.view.set]{fullShare} f : sProp 𝕄) ⊢ owns (c.tc : Thread nD τ) arg fullShare x := by
  unfold owns
  iintro H
  iexists _; isplitr; · ipureintro; exact h
  iexact H
/-- An owned memref's location. -/
theorem owns_any {S : Shape} {e : EltTy} (arg : Memref sig .tc .vmem S e) (c : Dev nD) :
    iprop(∃ d, owns (c.tc : Thread nD τ) arg fullShare d : sProp 𝕄) ⊢ iprop(∃ f, arg.view.loc (c.tc : Thread nD τ) ↦[arg.view.set]{fullShare} f) := by
  unfold owns
  iintro ⟨%d, %f, -, H⟩
  iexists f; iexact H

set_option maxHeartbeats 4000000 in
theorem kernelRun (c : Dev nD) (i : grid0.Coords) (arg1 : Memref sig .tc .vmem S128x8 .f32) (harg1 : arg1.IsWhole) (arg2 : Memref sig .tc .vmem S8x8192 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x15 .f32) (harg13 : arg13.IsWhole) (arg14 : Memref sig .tc .vmem S128x10 .f32) (harg14 : arg14.IsWhole) (arg15 : Memref sig .tc .vmem S128x10 .f32) (harg15 : arg15.IsWhole) (arg16 : Memref sig .tc .vmem S128x12 .i32) (harg16 : arg16.IsWhole) (arg17 : Memref sig .tc .vmem S128x12 .f32) (harg17 : arg17.IsWhole) (arg18 : Memref sig .tc .vmem S128x1 .f32) (harg18 : arg18.IsWhole) (arg19 : Memref sig .tc .vmem S1x1x128 .f32) (harg19 : arg19.IsWhole) (arg20 : Memref sig .tc .vmem S128x8192 .i32) (harg20 : arg20.IsWhole)
    (x0 : Vec F S128x8 .f32) (x1 : Vec F S8x8192 .f32) (x2 : Vec F S128x128 .f32) (x3 : Vec F S128x3 .f32) (x4 : Vec F S128x10 .f32) (x5 : Vec F S1x10 .f32) (x6 : Vec F S128x10 .f32) (x7 : Vec F S1x10 .f32) (x8 : Vec F S128x128 .f32) (x9 : Vec F S1x128 .f32) (x10 : Vec F S128x128 .f32) (x11 : Vec F S1x128 .f32) (x12 : Vec F S128x15 .f32) (K : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare x4 ∗ owns (c.tc : Thread nD τ) arg6 fullShare x5 ∗ owns (c.tc : Thread nD τ) arg7 fullShare x6 ∗ owns (c.tc : Thread nD τ) arg8 fullShare x7 ∗ owns (c.tc : Thread nD τ) arg9 fullShare x8 ∗ owns (c.tc : Thread nD τ) arg10 fullShare x9 ∗ owns (c.tc : Thread nD τ) arg11 fullShare x10 ∗ owns (c.tc : Thread nD τ) arg12 fullShare x11 ∗ owns (c.tc : Thread nD τ) arg13 fullShare x12 ∗ (∃ d, owns (c.tc : Thread nD τ) arg14 fullShare d) ∗ (∃ d, owns (c.tc : Thread nD τ) arg15 fullShare d) ∗ (∃ d, owns (c.tc : Thread nD τ) arg16 fullShare d) ∗ (∃ d, owns (c.tc : Thread nD τ) arg17 fullShare d) ∗ (∃ d, owns (c.tc : Thread nD τ) arg18 fullShare d) ∗ (∃ d, owns (c.tc : Thread nD τ) arg19 fullShare d) ∗ (∃ d, owns (c.tc : Thread nD τ) arg20 fullShare d)
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare x4 ∗ owns (c.tc : Thread nD τ) arg6 fullShare x5 ∗ owns (c.tc : Thread nD τ) arg7 fullShare x6 ∗ owns (c.tc : Thread nD τ) arg8 fullShare x7 ∗ owns (c.tc : Thread nD τ) arg9 fullShare x8 ∗ owns (c.tc : Thread nD τ) arg10 fullShare x9 ∗ owns (c.tc : Thread nD τ) arg11 fullShare x10 ∗ owns (c.tc : Thread nD τ) arg12 fullShare x11 ∗ owns (c.tc : Thread nD τ) arg13 fullShare x12 ∗ owns (c.tc : Thread nD τ) arg14 fullShare (k0_pay6 x2 x4 x5) ∗ owns (c.tc : Thread nD τ) arg15 fullShare (k0_pay8 x2 x8 x9 x6 x7) ∗ owns (c.tc : Thread nD τ) arg16 fullShare (idxOf x0 x1) ∗ owns (c.tc : Thread nD τ) arg17 fullShare (tOf x2 x3 x8 x9 x10 x11 x12) ∗ owns (c.tc : Thread nD τ) arg18 fullShare (k0_pay11 x3) ∗ owns (c.tc : Thread nD τ) arg19 fullShare (dsumOf x2 x3 x8 x9 x10 x11 x12) ∗ (∃ d, owns (c.tc : Thread nD τ) arg20 fullShare d)) -∗ K ⟨⟩))
      ⊢ wp frame (wpE (defs₀ (F := F)) Variants.none (c.tc : Thread nD τ) none) Set.univ (cc0__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__tc_body_eq_skeleton]; unfold cc0__tc_body_skel
  simp only [k0_part1_eq_skeleton, k0_part2_eq_skeleton]
  iintro ⟨H0, H1, H2, H3, H4, H5, H6, H7, H8, H9, H10, H11, H12, H13, H14, H15, H16, H17, H18, H19, Hk⟩
  ihave H0 := (owns_out harg1 c _) $$ H0
  ihave H1 := (owns_out harg2 c _) $$ H1
  ihave H2 := (owns_out harg3 c _) $$ H2
  ihave H3 := (owns_out harg4 c _) $$ H3
  ihave H4 := (owns_out harg5 c _) $$ H4
  ihave H5 := (owns_out harg6 c _) $$ H5
  ihave H6 := (owns_out harg7 c _) $$ H6
  ihave H7 := (owns_out harg8 c _) $$ H7
  ihave H8 := (owns_out harg9 c _) $$ H8
  ihave H9 := (owns_out harg10 c _) $$ H9
  ihave H10 := (owns_out harg11 c _) $$ H10
  ihave H11 := (owns_out harg12 c _) $$ H11
  ihave H12 := (owns_out harg13 c _) $$ H12
  ihave H13 := (owns_any arg14 c) $$ H13; icases H13 with ⟨%f13, H13⟩
  ihave H14 := (owns_any arg15 c) $$ H14; icases H14 with ⟨%f14, H14⟩
  ihave H15 := (owns_any arg16 c) $$ H15; icases H15 with ⟨%f15, H15⟩
  ihave H16 := (owns_any arg17 c) $$ H16; icases H16 with ⟨%f16, H16⟩
  ihave H17 := (owns_any arg18 c) $$ H17; icases H17 with ⟨%f17, H17⟩
  ihave H18 := (owns_any arg19 c) $$ H18; icases H18 with ⟨%f18, H18⟩
  ihave H19 := (owns_any arg20 c) $$ H19; icases H19 with ⟨%f19, H19⟩
  sl_exec
  sl_for (invSel c arg20 (keysOf x0 x1)) $$ [H19]
  case region =>
    intro k acc
    unfold invSel
    iintro ⟨⟨%f, %hf, H19⟩, %hacc⟩
    sl_exec
    sl_step
    isplitl [H19]
    · iexists _; isplitr; swap; · iexact H19
      ipureintro; exact hf
    · ipureintro
      rw [readAt_whole' zeros2, hf, hacc]
      exact (roundsAt_succ (F := F) _ k).symm
  · unfold invSel
    isplitl [H19]
    · iexists _; isplitr; swap; · iexact H19
      ipureintro
      exact (read_stored zeros2 _ _ _ _).trans (by unfold kernelRun.sl.r_2 kernelRun.sl.r_3 kernelRun.sl.r_4; rw [readAt_whole zeros2, readAt_whole zeros2]; rfl)
    · ipureintro; rfl
  iintro %acc HI
  unfold invSel
  icases HI with ⟨⟨%f, %hf, H19⟩, %hacc⟩
  subst hacc
  sl_exec
  sl_step
  iapply Hk
  isplitl [H0]; · iapply (owns_in harg1 c _); iexact H0
  isplitl [H1]; · iapply (owns_in harg2 c _); iexact H1
  isplitl [H2]; · iapply (owns_in harg3 c _); iexact H2
  isplitl [H3]; · iapply (owns_in harg4 c _); iexact H3
  isplitl [H4]; · iapply (owns_in harg5 c _); iexact H4
  isplitl [H5]; · iapply (owns_in harg6 c _); iexact H5
  isplitl [H6]; · iapply (owns_in harg7 c _); iexact H6
  isplitl [H7]; · iapply (owns_in harg8 c _); iexact H7
  isplitl [H8]; · iapply (owns_in harg9 c _); iexact H8
  isplitl [H9]; · iapply (owns_in harg10 c _); iexact H9
  isplitl [H10]; · iapply (owns_in harg11 c _); iexact H10
  isplitl [H11]; · iapply (owns_in harg12 c _); iexact H11
  isplitl [H12]; · iapply (owns_in harg13 c _); iexact H12
  isplitl [H13]
  · unfold owns; iexists _; isplitr; swap; · iexact H13
    ipureintro; exact (read_stored zeros2 _ _ _ _).trans (by rw [readAt_whole zeros2, readAt_whole zeros2, readAt_whole zeros2])
  isplitl [H14]
  · unfold owns; iexists _; isplitr; swap; · iexact H14
    ipureintro; exact (read_stored zeros2 _ _ _ _).trans (by rw [readAt_whole zeros2, readAt_whole zeros2, readAt_whole zeros2, readAt_whole zeros2, readAt_whole zeros2])
  isplitl [H15]
  · unfold owns; iexists _; isplitr; swap; · iexact H15
    ipureintro; exact (read_stored zeros2 _ _ _ _)
  isplitl [H16]
  · unfold owns; iexists _; isplitr; swap; · iexact H16
    ipureintro; exact (read_stored zeros2 _ _ _ _).trans (by unfold kernelRun.sl.r kernelRun.sl.r_1 kernelRun.sl.cst_26; rw [readAt_whole zeros2, readAt_whole zeros2, readAt_whole zeros2, readAt_whole zeros2, readAt_whole zeros2, readAt_whole zeros2, readAt_whole zeros2]; rfl)
  isplitl [H17]
  · unfold owns; iexists _; isplitr; swap; · iexact H17
    ipureintro; exact (read_stored zeros2 _ _ _ _).trans (by rw [readAt_whole zeros2])
  isplitl [H18]
  · unfold owns; iexists _; isplitr; swap; · iexact H18
    ipureintro; exact (read_stored zeros3 _ _ _ _).trans (by unfold kernelRun.sl.r kernelRun.sl.r_1 kernelRun.sl.cst_26; rw [readAt_whole zeros2, readAt_whole zeros2, readAt_whole zeros2, readAt_whole zeros2, readAt_whole zeros2, readAt_whole zeros2, readAt_whole zeros2]; rfl)
  iexists _; iapply (owns_of arg20 c hf); iexact H19

end Cert.Proof

end
-- ==== Proof.TcRegion.lean ====
/-
  The TensorCore's region: the proof data of its pipeline, entered from any contents of the arrays, its body
  obligation from the body's run, and the region as a step of @main that leaves the core's recorded waits at the
  index of a plain wait.
-/
module

public import proofs.«01_k».proof.Proof.TcBody
public import Idealize.ShloMosaic.Lib.Pipeline.RegionArraysS
public import Idealize.ShloMosaic.Lib.Pipeline.FrameTail

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- The contents of the TensorCore's arrays when the region is entered, on each device.
variable (Vr : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vr c (Proc.devRef .tc (Pipeline.arrRef spec0 w)))

/-- The proof data of the one pipeline on core `c`: each input's buffer at its block, each output's at what the body
    computes from the blocks; the invariant the scratch buffer; the core owing its starts of the later call, its
    recorded waits plain ones. -/
def dats (_ : Fin 1) (c : Dev nD) : Dat τ (Elt F) (HIx 1) ℕ UU ℕ cfg0 c where
  A w := Vr c (Proc.devRef .tc (Pipeline.arrRef spec0 w))
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => iblk Vr c 5 t
    | ⟨6, _⟩ => iblk Vr c 6 t
    | ⟨7, _⟩ => iblk Vr c 7 t
    | ⟨8, _⟩ => iblk Vr c 8 t
    | ⟨9, _⟩ => iblk Vr c 9 t
    | ⟨10, _⟩ => iblk Vr c 10 t
    | ⟨11, _⟩ => iblk Vr c 11 t
    | ⟨12, _⟩ => iblk Vr c 12 t
    | ⟨13, _⟩ => k0_pay6 (iblk Vr c 2 t) (iblk Vr c 4 t) (iblk Vr c 5 t)
    | ⟨14, _⟩ => k0_pay8 (iblk Vr c 2 t) (iblk Vr c 8 t) (iblk Vr c 9 t) (iblk Vr c 6 t) (iblk Vr c 7 t)
    | ⟨15, _⟩ => idxOf (iblk Vr c 0 t) (iblk Vr c 1 t)
    | ⟨16, _⟩ => tOf (iblk Vr c 2 t) (iblk Vr c 3 t) (iblk Vr c 8 t) (iblk Vr c 9 t) (iblk Vr c 10 t) (iblk Vr c 11 t) (iblk Vr c 12 t)
    | ⟨17, _⟩ => k0_pay11 (iblk Vr c 3 t)
    | ⟨18, _⟩ => dsumOf (iblk Vr c 2 t) (iblk Vr c 3 t) (iblk Vr c 8 t) (iblk Vr c 9 t) (iblk Vr c 10 t) (iblk Vr c 11 t) (iblk Vr c 12 t)
    | ⟨_ + 19, h⟩ => absurd h (Nat.not_lt.2 (Nat.le_add_left _ _))
  Φ _ := Pipeline.scopedRest spec0 c
  q _ := fullShare
  owed _ := (K (F := F)).Otc c 0
  recorded _ := {p | p.2 = none}

theorem A_eq (c : Dev nD) (w : Fin cfg0.W) : (dats Vr 0 c).A w = Vr c (Proc.devRef .tc (Pipeline.arrRef spec0 w)) := by
  dsimp only [dats]

theorem after_0 (c : Dev nD) (t : Fin cfg0.N) : (dats Vr 0 c).after 0 t = iblk Vr c 0 t := by dsimp only [dats]
theorem after_1 (c : Dev nD) (t : Fin cfg0.N) : (dats Vr 0 c).after 1 t = iblk Vr c 1 t := by dsimp only [dats]
theorem after_2 (c : Dev nD) (t : Fin cfg0.N) : (dats Vr 0 c).after 2 t = iblk Vr c 2 t := by dsimp only [dats]
theorem after_3 (c : Dev nD) (t : Fin cfg0.N) : (dats Vr 0 c).after 3 t = iblk Vr c 3 t := by dsimp only [dats]
theorem after_4 (c : Dev nD) (t : Fin cfg0.N) : (dats Vr 0 c).after 4 t = iblk Vr c 4 t := by dsimp only [dats]
theorem after_5 (c : Dev nD) (t : Fin cfg0.N) : (dats Vr 0 c).after 5 t = iblk Vr c 5 t := by dsimp only [dats]
theorem after_6 (c : Dev nD) (t : Fin cfg0.N) : (dats Vr 0 c).after 6 t = iblk Vr c 6 t := by dsimp only [dats]
theorem after_7 (c : Dev nD) (t : Fin cfg0.N) : (dats Vr 0 c).after 7 t = iblk Vr c 7 t := by dsimp only [dats]
theorem after_8 (c : Dev nD) (t : Fin cfg0.N) : (dats Vr 0 c).after 8 t = iblk Vr c 8 t := by dsimp only [dats]
theorem after_9 (c : Dev nD) (t : Fin cfg0.N) : (dats Vr 0 c).after 9 t = iblk Vr c 9 t := by dsimp only [dats]
theorem after_10 (c : Dev nD) (t : Fin cfg0.N) : (dats Vr 0 c).after 10 t = iblk Vr c 10 t := by dsimp only [dats]
theorem after_11 (c : Dev nD) (t : Fin cfg0.N) : (dats Vr 0 c).after 11 t = iblk Vr c 11 t := by dsimp only [dats]
theorem after_12 (c : Dev nD) (t : Fin cfg0.N) : (dats Vr 0 c).after 12 t = iblk Vr c 12 t := by dsimp only [dats]
theorem after_13 (c : Dev nD) (t : Fin cfg0.N) : (dats Vr 0 c).after 13 t = k0_pay6 (iblk Vr c 2 t) (iblk Vr c 4 t) (iblk Vr c 5 t) := by dsimp only [dats]
theorem after_14 (c : Dev nD) (t : Fin cfg0.N) : (dats Vr 0 c).after 14 t = k0_pay8 (iblk Vr c 2 t) (iblk Vr c 8 t) (iblk Vr c 9 t) (iblk Vr c 6 t) (iblk Vr c 7 t) := by dsimp only [dats]
theorem after_15 (c : Dev nD) (t : Fin cfg0.N) : (dats Vr 0 c).after 15 t = idxOf (iblk Vr c 0 t) (iblk Vr c 1 t) := by dsimp only [dats]
theorem after_16 (c : Dev nD) (t : Fin cfg0.N) : (dats Vr 0 c).after 16 t = tOf (iblk Vr c 2 t) (iblk Vr c 3 t) (iblk Vr c 8 t) (iblk Vr c 9 t) (iblk Vr c 10 t) (iblk Vr c 11 t) (iblk Vr c 12 t) := by dsimp only [dats]
theorem after_17 (c : Dev nD) (t : Fin cfg0.N) : (dats Vr 0 c).after 17 t = k0_pay11 (iblk Vr c 3 t) := by dsimp only [dats]
theorem after_18 (c : Dev nD) (t : Fin cfg0.N) : (dats Vr 0 c).after 18 t = dsumOf (iblk Vr c 2 t) (iblk Vr c 3 t) (iblk Vr c 8 t) (iblk Vr c 9 t) (iblk Vr c 10 t) (iblk Vr c 11 t) (iblk Vr c 12 t) := by dsimp only [dats]

/-! Each input's current staging buffer holds its block at every point, fetched there or not. -/

theorem before_0 (c : Dev nD) (t : Fin cfg0.N) (d) : (dats Vr 0 c).before 0 t d = iblk Vr c 0 t :=
  ((dats Vr 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats Vr 0 c).before 1 t d = iblk Vr c 1 t :=
  ((dats Vr 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats Vr 0 c).before 2 t d = iblk Vr c 2 t :=
  ((dats Vr 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats Vr 0 c).before 3 t d = iblk Vr c 3 t :=
  ((dats Vr 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats Vr 0 c).before 4 t d = iblk Vr c 4 t :=
  ((dats Vr 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats Vr 0 c).before 5 t d = iblk Vr c 5 t :=
  ((dats Vr 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats Vr 0 c).before 6 t d = iblk Vr c 6 t :=
  ((dats Vr 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats Vr 0 c).before 7 t d = iblk Vr c 7 t :=
  ((dats Vr 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats Vr 0 c).before 8 t d = iblk Vr c 8 t :=
  ((dats Vr 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats Vr 0 c).before 9 t d = iblk Vr c 9 t :=
  ((dats Vr 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats Vr 0 c).before 10 t d = iblk Vr c 10 t :=
  ((dats Vr 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats Vr 0 c).before 11 t d = iblk Vr c 11 t :=
  ((dats Vr 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats Vr 0 c).before 12 t d = iblk Vr c 12 t :=
  ((dats Vr 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

/-! ## The body obligation -/

abbrev ms0 (t : Fin cfg0.N) : Memref sig .tc .vmem S128x8 .f32 := win0_0.stage (cfg0.slots t 0)
abbrev ms1 (t : Fin cfg0.N) : Memref sig .tc .vmem S8x8192 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S128x3 .f32 := win0_3.stage (cfg0.slots t 3)
abbrev ms4 (t : Fin cfg0.N) : Memref sig .tc .vmem S128x10 .f32 := win0_4.stage (cfg0.slots t 4)
abbrev ms5 (t : Fin cfg0.N) : Memref sig .tc .vmem S1x10 .f32 := win0_5.stage (cfg0.slots t 5)
abbrev ms6 (t : Fin cfg0.N) : Memref sig .tc .vmem S128x10 .f32 := win0_6.stage (cfg0.slots t 6)
abbrev ms7 (t : Fin cfg0.N) : Memref sig .tc .vmem S1x10 .f32 := win0_7.stage (cfg0.slots t 7)
abbrev ms8 (t : Fin cfg0.N) : Memref sig .tc .vmem S128x128 .f32 := win0_8.stage (cfg0.slots t 8)
abbrev ms9 (t : Fin cfg0.N) : Memref sig .tc .vmem S1x128 .f32 := win0_9.stage (cfg0.slots t 9)
abbrev ms10 (t : Fin cfg0.N) : Memref sig .tc .vmem S128x128 .f32 := win0_10.stage (cfg0.slots t 10)
abbrev ms11 (t : Fin cfg0.N) : Memref sig .tc .vmem S1x128 .f32 := win0_11.stage (cfg0.slots t 11)
abbrev ms12 (t : Fin cfg0.N) : Memref sig .tc .vmem S128x15 .f32 := win0_12.stage (cfg0.slots t 12)
abbrev ms13 (t : Fin cfg0.N) : Memref sig .tc .vmem S128x10 .f32 := win0_13.stage (cfg0.slots t 13)
abbrev ms14 (t : Fin cfg0.N) : Memref sig .tc .vmem S128x10 .f32 := win0_14.stage (cfg0.slots t 14)
abbrev ms15 (t : Fin cfg0.N) : Memref sig .tc .vmem S128x12 .i32 := win0_15.stage (cfg0.slots t 15)
abbrev ms16 (t : Fin cfg0.N) : Memref sig .tc .vmem S128x12 .f32 := win0_16.stage (cfg0.slots t 16)
abbrev ms17 (t : Fin cfg0.N) : Memref sig .tc .vmem S128x1 .f32 := win0_17.stage (cfg0.slots t 17)
abbrev ms18 (t : Fin cfg0.N) : Memref sig .tc .vmem S1x1x128 .f32 := win0_18.stage (cfg0.slots t 18)
abbrev scM : Memref sig .tc .vmem S128x8192 .i32 := Memref.whole cc0_scratch0

theorem scopedRest_owns (c : Dev nD) :
    (Pipeline.scopedRest spec0 c : sProp 𝕄) = iprop(∃ d, owns (c : Thread nD τ) scM fullShare d) := by
  rw [scopedRest0_eq]; simp only [scM, owns_whole]; try rfl

/-- What the body is called with at point `t`, -/
def bodyPre (c : Dev nD) (t : Fin cfg0.N) : sProp 𝕄 :=
  iprop((dats Vr 0 c).Φ t.castSucc ∗ (dats Vr 0 c).owesAt none t.castSucc
    ∗ (∃ d, owns (c : Thread nD τ) (ms0 t) fullShare ((dats Vr 0 c).before 0 t d))
    ∗ (∃ d, owns (c : Thread nD τ) (ms1 t) fullShare ((dats Vr 0 c).before 1 t d))
    ∗ (∃ d, owns (c : Thread nD τ) (ms2 t) fullShare ((dats Vr 0 c).before 2 t d))
    ∗ (∃ d, owns (c : Thread nD τ) (ms3 t) fullShare ((dats Vr 0 c).before 3 t d))
    ∗ (∃ d, owns (c : Thread nD τ) (ms4 t) fullShare ((dats Vr 0 c).before 4 t d))
    ∗ (∃ d, owns (c : Thread nD τ) (ms5 t) fullShare ((dats Vr 0 c).before 5 t d))
    ∗ (∃ d, owns (c : Thread nD τ) (ms6 t) fullShare ((dats Vr 0 c).before 6 t d))
    ∗ (∃ d, owns (c : Thread nD τ) (ms7 t) fullShare ((dats Vr 0 c).before 7 t d))
    ∗ (∃ d, owns (c : Thread nD τ) (ms8 t) fullShare ((dats Vr 0 c).before 8 t d))
    ∗ (∃ d, owns (c : Thread nD τ) (ms9 t) fullShare ((dats Vr 0 c).before 9 t d))
    ∗ (∃ d, owns (c : Thread nD τ) (ms10 t) fullShare ((dats Vr 0 c).before 10 t d))
    ∗ (∃ d, owns (c : Thread nD τ) (ms11 t) fullShare ((dats Vr 0 c).before 11 t d))
    ∗ (∃ d, owns (c : Thread nD τ) (ms12 t) fullShare ((dats Vr 0 c).before 12 t d))
    ∗ (∃ d, owns (c : Thread nD τ) (ms13 t) fullShare ((dats Vr 0 c).before 13 t d))
    ∗ (∃ d, owns (c : Thread nD τ) (ms14 t) fullShare ((dats Vr 0 c).before 14 t d))
    ∗ (∃ d, owns (c : Thread nD τ) (ms15 t) fullShare ((dats Vr 0 c).before 15 t d))
    ∗ (∃ d, owns (c : Thread nD τ) (ms16 t) fullShare ((dats Vr 0 c).before 16 t d))
    ∗ (∃ d, owns (c : Thread nD τ) (ms17 t) fullShare ((dats Vr 0 c).before 17 t d))
    ∗ (∃ d, owns (c : Thread nD τ) (ms18 t) fullShare ((dats Vr 0 c).before 18 t d)))

/-- and what it returns. -/
def bodyPost (c : Dev nD) (t : Fin cfg0.N) : sProp 𝕄 :=
  iprop((dats Vr 0 c).Φ t.succ ∗ (dats Vr 0 c).owesAt none t.succ
    ∗ owns (c : Thread nD τ) (ms0 t) fullShare ((dats Vr 0 c).after 0 t)
    ∗ owns (c : Thread nD τ) (ms1 t) fullShare ((dats Vr 0 c).after 1 t)
    ∗ owns (c : Thread nD τ) (ms2 t) fullShare ((dats Vr 0 c).after 2 t)
    ∗ owns (c : Thread nD τ) (ms3 t) fullShare ((dats Vr 0 c).after 3 t)
    ∗ owns (c : Thread nD τ) (ms4 t) fullShare ((dats Vr 0 c).after 4 t)
    ∗ owns (c : Thread nD τ) (ms5 t) fullShare ((dats Vr 0 c).after 5 t)
    ∗ owns (c : Thread nD τ) (ms6 t) fullShare ((dats Vr 0 c).after 6 t)
    ∗ owns (c : Thread nD τ) (ms7 t) fullShare ((dats Vr 0 c).after 7 t)
    ∗ owns (c : Thread nD τ) (ms8 t) fullShare ((dats Vr 0 c).after 8 t)
    ∗ owns (c : Thread nD τ) (ms9 t) fullShare ((dats Vr 0 c).after 9 t)
    ∗ owns (c : Thread nD τ) (ms10 t) fullShare ((dats Vr 0 c).after 10 t)
    ∗ owns (c : Thread nD τ) (ms11 t) fullShare ((dats Vr 0 c).after 11 t)
    ∗ owns (c : Thread nD τ) (ms12 t) fullShare ((dats Vr 0 c).after 12 t)
    ∗ owns (c : Thread nD τ) (ms13 t) fullShare ((dats Vr 0 c).after 13 t)
    ∗ owns (c : Thread nD τ) (ms14 t) fullShare ((dats Vr 0 c).after 14 t)
    ∗ owns (c : Thread nD τ) (ms15 t) fullShare ((dats Vr 0 c).after 15 t)
    ∗ owns (c : Thread nD τ) (ms16 t) fullShare ((dats Vr 0 c).after 16 t)
    ∗ owns (c : Thread nD τ) (ms17 t) fullShare ((dats Vr 0 c).after 17 t)
    ∗ owns (c : Thread nD τ) (ms18 t) fullShare ((dats Vr 0 c).after 18 t))

set_option maxHeartbeats 4000000 in
/-- The body at any point. -/
theorem sound_body (c : Dev nD) (t : Fin cfg0.N) :
    bodyPre Vr c t ⊢ wp frame (wpE (defs₀ (F := F)) Variants.none (c.tc : Thread nD τ) none) Set.univ (bodyAt0 t) (fun _ => bodyPost Vr c t) := by
  unfold bodyPre bodyPost bodyAt0
  simp only [before_0, before_1, before_2, before_3, before_4, before_5, before_6, before_7, before_8, before_9, before_10, before_11, before_12]
  rw [show (dats Vr 0 c).Φ t.succ = (dats Vr 0 c).Φ t.castSucc from rfl,
    show (dats Vr 0 c).owesAt none t.succ = (dats Vr 0 c).owesAt none t.castSucc from rfl,
    after_0, after_1, after_2, after_3, after_4, after_5, after_6, after_7, after_8, after_9, after_10, after_11, after_12, after_13, after_14, after_15, after_16, after_17, after_18]
  rw [show (dats Vr 0 c).Φ t.castSucc = Pipeline.scopedRest spec0 c from rfl, scopedRest_owns]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (kernelRun c (grid0.coords t) _ _ _ _ _ _ _ _ _ _ _ _ _ _ _ _ _ _ _ _ _ _ _ _ _ _ _ _ _ _ _ _ _ _ _ _ _ _ _ _ (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t) (iblk Vr c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS]; · iexact HS
  iintro ⟨H0, H1, H2, H3, H4, H5, H6, H7, H8, H9, H10, H11, H12, H13, H14, H15, H16, H17, H18, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) :
    defs₀ (F := F) .tc cfg0.body (cfg0.bodyArgs t (cfg0.slots t)) = bodyAt0 t := by
  rfl

theorem body_obligation (c : Dev nD) : BodyObligation (dats (F := F) Vr 0 c) (defs₀ (F := F)) Variants.none none Set.univ := fun t => by
  rw [bigSep_W0, bigSep_W0, defs₀_row]
  exact triple_restated (sound_body Vr c t) rfl .rfl fun _ => .rfl

/-! ## The region -/

abbrev adms : (p : Fin 1) → (pcfgs (F := F) p).Adm := fun p => (cfgs p).toPCfg_adm

theorem kit : Pipeline.PLaunchFacts (nD := nD) (τ := τ) (pcfgs (F := F)) 0 := launch0.toP

/-- The TensorCore owes nothing at a plain wait's index. -/
theorem Otc_pos (c : Dev nD) (g : GSem nD τ sig) (i : HIx 1) (h : 0 < (K (F := F)).Otc (nD := nD) c 0 g i) :
    i ∈ (K (F := F)).L g ∧ 0 < (K (F := F)).lev g i := by
  have := SparseCore.Cfg.lev_of_Otc_pos h
  exact ⟨Finset.mem_univ _, by omega⟩

/-- The thread state across the region: the TensorCore's arrays at a valuation, the core owing its starts, its recorded
    waits plain ones. -/
def tcOwes (c : Dev nD) : sProp 𝕄 :=
  iprop(∃ W, ⌜∀ p ∈ W, p.2 = (none : HIx 1)⌝ ∗ owes (c.tc : Thread nD τ) ((K (F := F)).Otc c 0) W)

theorem owesAt_intro (c : Dev nD) (t : Fin (cfg0.N + 1)) : tcOwes c ⊢ ((dats Vr 0 c).owesAt none t : sProp 𝕄) := by
  unfold tcOwes Dat.owesAt Pipeline.owesWithin
  iintro ⟨%W, %h, H⟩
  iexists W
  isplitr
  · ipureintro; exact fun p hp => Or.inl (h p hp)
  iexact H

theorem owesAt_elim (c : Dev nD) (t : Fin (cfg0.N + 1)) : ((dats Vr 0 c).owesAt none t : sProp 𝕄) ⊢ tcOwes c := by
  unfold tcOwes Dat.owesAt Pipeline.owesWithin
  iintro ⟨%W, %h, H⟩
  iexists W
  isplitr
  · ipureintro
    intro p hp
    rcases h hp with h | ⟨w, s, h⟩
    · exact h
    · rw [h]
  iexact H

/-- What the region leaves in the TensorCore's buffers. -/
abbrev Va (c : Dev nD) : Valuation τ sig (Elt F) := Pipeline.afterRegion (dats Vr 0 c) (Vr c)

theorem arrAt_zero (c : Dev nD) (w : Fin cfg0.W) : (dats Vr 0 c).arrAt w 0 = Vr c (Proc.devRef .tc (Pipeline.arrRef spec0 w)) :=
  A_eq Vr c w

set_option maxHeartbeats 1000000 in
theorem arrAt_last (c : Dev nD) (w : Fin cfg0.W) : (dats Vr 0 c).arrAt w cfg0.N = Va Vr c (Proc.devRef .tc (Pipeline.arrRef spec0 w)) :=
  (Pipeline.afterRegion_arr (dats Vr 0 c) (Vr c) launch0.win.arr_inj w).symm

theorem Phi_eq (c : Dev nD) (t : Fin (cfg0.N + 1)) : (dats Vr 0 c).Φ t = (Pipeline.scopedRest spec0 c : sProp 𝕄) := rfl

def region : Pipeline.RegionSeg (pcfgs (F := F)) adms (dats Vr) none defs₀ 𝒱₀ (K (F := F)).L (K (F := F)).lev 0 where
  win := (kit (F := F)).to₀.win
  block_pos := (kit (F := F)).block_pos
  stage_whole := (kit (F := F)).stage_whole
  K := PEmpty
  osem k := k.elim
  ho := Pipeline.OwnSemFacts.none _
  hbody c := (body_obligation Vr c).loose
  hwaits c := Pipeline.cellsWaits_of_cut (Pipeline.pin (pcfgs (F := F)) adms) (dats Vr) none 0 c 0 ((K (F := F)).Otc c 0) (fun _ => rfl)
    (fun _ _ => Finset.mem_univ _) (fun _ _ => le_rfl) (Otc_pos c)
  pre c := iprop(StableHlo.held (c.tc : Thread nD τ) (Pipeline.arrRefs spec0) (Vr c) ∗ tcOwes c)
  post c := iprop(StableHlo.held (c.tc : Thread nD τ) (Pipeline.arrRefs spec0) (Va Vr c) ∗ tcOwes c)
  X c := iprop(emp)
  Y c := iprop(emp)
  Z c := iprop(emp)
  hentry c := by
    rw [Pipeline.ownSems0_none, Pipeline.prefHeld_of_none _ rfl,
      ← Pipeline.arrays_held pcfgs adms (dats Vr) 0 kit c (fun w => (dats Vr 0 c).share_full (fun _ => rfl) w) ((dats Vr 0 c).arrAt · 0) (Vr c) (arrAt_zero Vr c)]
    iintro ⟨⟨Ha, HO⟩, -, -⟩
    imodintro
    isplitl [Ha]; · iexact Ha
    isplitr; · iempintro
    isplitl [HO]; · iapply (owesAt_intro Vr c 0); iexact HO
    isplitr; · iempintro
    iempintro
  hin c := by
    refine BIBase.Entails.trans ?_ (Entails.of_eq (Phi_eq Vr c 0).symm)
    iintro ⟨-, -, Hr⟩
    iexact Hr
  hout c := by
    rw [Pipeline.ownSems0_none]
    refine BIBase.Entails.trans (Entails.of_eq (Phi_eq Vr c (Fin.last cfg0.N))) ?_
    iintro Hr
    isplitr; · iempintro
    isplitr; · iempintro
    iexact Hr
  hexit c := by
    rw [← Pipeline.arrays_held pcfgs adms (dats Vr) 0 kit c (fun w => (dats Vr 0 c).share_full (fun _ => rfl) w) ((dats Vr 0 c).arrAt · cfg0.N) (Va Vr c)
      (arrAt_last Vr c)]
    iintro ⟨Ha, HO, -, -⟩
    imodintro
    isplitl [Ha]; · iexact Ha
    iapply (owesAt_elim Vr c (Fin.last _)); iexact HO

end Cert.Proof

end
-- ==== Proof.ScBody.lean ====
/-
  A vector subcore's task at symbolic coordinates: three fetches, the loop over 192 groups of sixteen neighbours, the
  write-out of the sixteen partial sums; carried with what it computes.
-/
module

public import proofs.«01_k».proof.Proof.Base
public import Idealize.ShloMosaic.Lib.Pipeline.FrameBody
public import Idealize.ShloMosaic.Lib.Pipeline.Value
public import Idealize.ShloMosaic.Lib.Writes
public import Idealize.ShloMosaic.Lib.ValueIdx
public import Idealize.ShloMosaic.Lib.Transfers

@[expose] public section

set_option maxRecDepth 16384

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

abbrev gV : Memref sig .scVector .hbm S8192 .f32 := Memref.whole main_v7_scv
abbrev nV : Memref sig .scVector .hbm S98304 .i32 := Memref.whole main_v8_scv
abbrev uV : Memref sig .scVector .hbm S98304 .f32 := Memref.whole main_v9_scv
abbrev oV : Memref sig .scVector .hbm S512 .f32 := Memref.whole main_v10_scv
abbrev s0V : Memref sig .scVector .vmem S8192 .f32 := Memref.whole cc1_scratch0
abbrev s1V : Memref sig .scVector .vmem S3072 .i32 := Memref.whole cc1_scratch1
abbrev s2V : Memref sig .scVector .vmem S3072 .f32 := Memref.whole cc1_scratch2
abbrev s3V : Memref sig .scVector .vmem S16 .f32 := Memref.whole cc1_scratch3

abbrev nRow (L : grid1.Coords) : Memref sig .scVector .hbm S3072 .i32 := nV.slice (Rect.unit (s := S98304) (k1_off1 L) S3072.size (k1_off1_inb L)) (fun _ => rfl)
abbrev uRow (L : grid1.Coords) : Memref sig .scVector .hbm S3072 .f32 := uV.slice (Rect.unit (s := S98304) (k1_off1 L) S3072.size (k1_off1_inb L)) (fun _ => rfl)
abbrev oRow (L : grid1.Coords) : Memref sig .scVector .hbm S16 .f32 := oV.slice (Rect.unit (s := S512) (k1_off4 L) S16.size (k1_off4_inb L)) (fun _ => rfl)

/-! ## What a task computes -/

/-- Element `j` of group `n` of a task's share of the neighbours' list. -/
def elt (L : grid1.Coords) (n : ℕ) (j : S16.Idx) : S98304.Idx :=
  ValueIdx.ix1 ⟨(6144 * (L 1).val + 3072 * (L 0).val + 16 * n + (j 0).val) % 98304, Nat.mod_lt _ (by decide)⟩
/-- The table's entry a word names. -/
def ent (w : BitVec 32) : S8192.Idx := ValueIdx.ix1 ⟨w.toNat % 8192, Nat.mod_lt _ (by decide)⟩

/-- The sixteen sums after `n` groups: of `|g(neighbour) − target|`. -/
def sumsAt (L : grid1.Coords) (G : Vec F S8192 .f32) (X : Vec F S98304 .i32) (U : Vec F S98304 .f32) : ℕ → FVec F S16 .f32
  | 0 => k1_pay1
  | n + 1 => k1_pay2 (sumsAt L G X U n) (fun j => G (ent (X (elt L n j)))) (fun j => U (elt L n j))

/-- A task's cells at zero. -/
abbrev cells0 (d : Dev nD) (L : grid1.Coords) : sProp 𝕄 :=
  iprop(semVal (VT d L, SemLoc.dma cc1_scoped0.sem) 0 ∗ semVal (VT d L, SemLoc.dma cc1_scoped1.sem) 0 ∗ semVal (VT d L, SemLoc.dma cc1_scoped2.sem) 0
    ∗ semVal (VT d L, SemLoc.dma cc1_scoped3.sem) 0)

theorem elt_val (L : grid1.Coords) (k : Fin k1_t1_loop.trips) (j : S16.Idx) :
    (elt L k.val j 0).val = 6144 * (L 1).val + 3072 * (L 0).val + 16 * k.val + (j 0).val := by
  have h0 : (L 0).val < 2 := (L 0).isLt
  have h1 : (L 1).val < 16 := (L 1).isLt
  have hk : k.val < 192 := k.isLt
  have hj : (j 0).val < 16 := (j 0).isLt
  show (6144 * (L 1).val + 3072 * (L 0).val + 16 * k.val + (j 0).val) % 98304 = _
  exact Nat.mod_eq_of_lt (by omega)

theorem read_n (d : Dev nD) (L : grid1.Coords) (X : Buf (Elt F) ((Memref.whole Cert.KernelIdeal.main_v8_scv : Memref Cert.KernelIdeal.sig Kind.scVector Space.hbm Cert.KernelIdeal.S98304 EltTy.i32).view.loc (VT d L))) (k : Fin k1_t1_loop.trips) :
    (View.readAt (Elt F) (Memref.whole Cert.KernelIdeal.cc1_scratch1 : Memref Cert.KernelIdeal.sig Kind.scVector Space.vmem Cert.KernelIdeal.S3072 EltTy.i32).view (Rect.unit (s := S3072) (k1_off2 k) S16.size (k1_off2_inb k)).toLoadRect ((nRow L).view.read (Elt F) X) : Vec F S16 .i32)
      = fun j => X (elt L k.val j) := by
  funext j
  rw [View.readAt_apply]
  refine (View.read_apply _ _).trans ?_
  refine congrArg X (funext fun a => Fin.ext ?_)
  match a with
  | ⟨0, _⟩ =>
    refine Eq.trans ?_ (elt_val L k j).symm
    have h1 : k1_off1 L 0 = 6144 * (L 1).val + 3072 * (L 0).val := congrFun (k1_off1_eq L) 0
    have h2 : k1_off2 k 0 = 16 * k.val := congrFun (k1_off2_eq k) 0
    show (k1_off1 L 0) + 1 * ((k1_off2 k 0) + 1 * (j 0).val) = _
    omega

theorem read_u (d : Dev nD) (L : grid1.Coords) (U : Buf (Elt F) ((Memref.whole Cert.KernelIdeal.main_v9_scv : Memref Cert.KernelIdeal.sig Kind.scVector Space.hbm Cert.KernelIdeal.S98304 EltTy.f32).view.loc (VT d L))) (k : Fin k1_t1_loop.trips) :
    (View.readAt (Elt F) (Memref.whole Cert.KernelIdeal.cc1_scratch2 : Memref Cert.KernelIdeal.sig Kind.scVector Space.vmem Cert.KernelIdeal.S3072 EltTy.f32).view (Rect.unit (s := S3072) (k1_off3 k) S16.size (k1_off3_inb k)).toLoadRect ((uRow L).view.read (Elt F) U) : Vec F S16 .f32)
      = fun j => U (elt L k.val j) := by
  funext j
  rw [View.readAt_apply]
  refine (View.read_apply _ _).trans ?_
  refine congrArg U (funext fun a => Fin.ext ?_)
  match a with
  | ⟨0, _⟩ =>
    refine Eq.trans ?_ (elt_val L k j).symm
    have h1 : k1_off1 L 0 = 6144 * (L 1).val + 3072 * (L 0).val := congrFun (k1_off1_eq L) 0
    have h2 : k1_off3 k 0 = 16 * k.val := congrFun (k1_off3_eq k) 0
    show (k1_off1 L 0) + 1 * ((k1_off3 k 0) + 1 * (j 0).val) = _
    omega

theorem chk_of_lt (v : IVec S16 32) (h : ∀ j, (v j).toNat < 8192) : k1_chk1 v := by
  intro a x
  obtain rfl : a = 0 := Subsingleton.elim _ _
  exact h x

theorem gat_eq (f : Vec F S8192 .f32) (v w : IVec S16 32) (hvw : v = w) (hlt : ∀ j, (w j).toNat < 8192) (h : ∀ a x, ((![v] : Fin S8192.rank → IVec S16 32) a x).toNat < S8192.size a) :
    loadIdx (F := F) (s := S8192) (t := S16) (e := .f32) f ![v] h = fun j => f (ent (w j)) := by
  subst hvw
  funext j
  refine congrArg f (funext fun a => Fin.ext ?_)
  match a with
  | ⟨0, _⟩ => exact (Nat.mod_eq_of_lt (hlt j)).symm

/-- A write of all of a view reads back. -/
theorem read_wrote (v : View sig .scVector .hbm S16 .f32) (f : v.ty.Contents (Elt F)) (x : Vec F S16 .f32) :
    v.read (Elt F) (v.writes (Elt F) f [⟨Rect.whole S16, x⟩]) = x := by
  funext j
  have h := View.read_writes_cons_emb v f (Rect.whole S16) x [] j
  rwa [Rect.emb_whole_apply] at h
/-- A store of all of a view reads back. -/
theorem read_put {S : Shape} {e : EltTy} {off : Fin S.rank → Nat} (h : off = fun _ => 0) (v : View sig .scVector .vmem S e)
    (f : v.ty.Contents (Elt F)) (x : Vec F S e) (inb : ∀ a, off a + S.size a ≤ S.size a) :
    v.read (Elt F) (v.writes (Elt F) f [⟨Rect.unit off S.size inb, x⟩]) = x := by
  rw [View.read_writes_eq_canon _ _ _ fun y => ⟨_, List.mem_singleton_self _, View.mem_set_unit_zero h inb y⟩]
  exact View.canon_unit_zero h inb x

theorem pts_s0_access (d : Dev nD) (L : grid1.Coords) (f : Buf (Elt F) ((Memref.whole Cert.KernelIdeal.cc1_scratch0 : Memref Cert.KernelIdeal.sig Kind.scVector Space.vmem Cert.KernelIdeal.S8192 EltTy.f32).view.loc (VT d L))) :
    (((Memref.whole Cert.KernelIdeal.cc1_scratch0 : Memref Cert.KernelIdeal.sig Kind.scVector Space.vmem Cert.KernelIdeal.S8192 EltTy.f32).view.loc (VT d L)) ↦{fullShare} f : sProp 𝕄) = ((Memref.whole Cert.KernelIdeal.cc1_scratch0 : Memref Cert.KernelIdeal.sig Kind.scVector Space.vmem Cert.KernelIdeal.S8192 EltTy.f32).access (.whole S8192)).loc (VT d L) ↦{fullShare} f := rfl

/-- The loop's invariant: the three scratch buffers at what was fetched, the carried sums at `sumsAt`. -/
def invSum (d : Dev nD) (L : grid1.Coords) (G : Vec F S8192 .f32) (X : Vec F S98304 .i32) (U : Vec F S98304 .f32)
    (f0 : Buf (Elt F) ((Memref.whole Cert.KernelIdeal.cc1_scratch0 : Memref Cert.KernelIdeal.sig Kind.scVector Space.vmem Cert.KernelIdeal.S8192 EltTy.f32).view.loc (VT d L))) (f1 : Buf (Elt F) ((Memref.whole Cert.KernelIdeal.cc1_scratch1 : Memref Cert.KernelIdeal.sig Kind.scVector Space.vmem Cert.KernelIdeal.S3072 EltTy.i32).view.loc (VT d L))) (f2 : Buf (Elt F) ((Memref.whole Cert.KernelIdeal.cc1_scratch2 : Memref Cert.KernelIdeal.sig Kind.scVector Space.vmem Cert.KernelIdeal.S3072 EltTy.f32).view.loc (VT d L)))
    (n : Nat) (acc : FVec F S16 .f32) : sProp 𝕄 :=
  iprop(((Memref.whole Cert.KernelIdeal.cc1_scratch0 : Memref Cert.KernelIdeal.sig Kind.scVector Space.vmem Cert.KernelIdeal.S8192 EltTy.f32).view.loc (VT d L) ↦{fullShare} f0) ∗ ((Memref.whole Cert.KernelIdeal.cc1_scratch1 : Memref Cert.KernelIdeal.sig Kind.scVector Space.vmem Cert.KernelIdeal.S3072 EltTy.i32).view.loc (VT d L) ↦{fullShare} f1) ∗ ((Memref.whole Cert.KernelIdeal.cc1_scratch2 : Memref Cert.KernelIdeal.sig Kind.scVector Space.vmem Cert.KernelIdeal.S3072 EltTy.f32).view.loc (VT d L) ↦{fullShare} f2)
    ∗ ⌜acc = sumsAt L G X U n⌝)

theorem step_run (d : Dev nD) (L : grid1.Coords)
    (G : Buf (Elt F) ((Memref.whole Cert.KernelIdeal.main_v7_scv : Memref Cert.KernelIdeal.sig Kind.scVector Space.hbm Cert.KernelIdeal.S8192 EltTy.f32).view.loc (VT d L))) (X : Buf (Elt F) ((Memref.whole Cert.KernelIdeal.main_v8_scv : Memref Cert.KernelIdeal.sig Kind.scVector Space.hbm Cert.KernelIdeal.S98304 EltTy.i32).view.loc (VT d L))) (U : Buf (Elt F) ((Memref.whole Cert.KernelIdeal.main_v9_scv : Memref Cert.KernelIdeal.sig Kind.scVector Space.hbm Cert.KernelIdeal.S98304 EltTy.f32).view.loc (VT d L)))
    (hX : ∀ j : S98304.Idx, BitVec.toNat (X j) < 8192) (k : Fin k1_t1_loop.trips) (acc : FVec F S16 .f32) :
    invSum d L G X U G ((nRow L).view.read (Elt F) X) ((uRow L).view.read (Elt F) U) k.val acc
      ⊢ wp frame (wpE (defs₀ (F := F)) 𝒱₀ (VT d L) none) Set.univ
          (k1_t1_body L (Memref.whole Cert.KernelIdeal.main_v7_scv : Memref Cert.KernelIdeal.sig Kind.scVector Space.hbm Cert.KernelIdeal.S8192 EltTy.f32) (Memref.isWhole_whole _) (Memref.whole Cert.KernelIdeal.main_v8_scv : Memref Cert.KernelIdeal.sig Kind.scVector Space.hbm Cert.KernelIdeal.S98304 EltTy.i32) (Memref.isWhole_whole _) (Memref.whole Cert.KernelIdeal.main_v9_scv : Memref Cert.KernelIdeal.sig Kind.scVector Space.hbm Cert.KernelIdeal.S98304 EltTy.f32) (Memref.isWhole_whole _) (Memref.whole Cert.KernelIdeal.main_v10_scv : Memref Cert.KernelIdeal.sig Kind.scVector Space.hbm Cert.KernelIdeal.S512 EltTy.f32) (Memref.isWhole_whole _)
            (Memref.whole Cert.KernelIdeal.cc1_scratch0 : Memref Cert.KernelIdeal.sig Kind.scVector Space.vmem Cert.KernelIdeal.S8192 EltTy.f32) (Memref.isWhole_whole _) (Memref.whole Cert.KernelIdeal.cc1_scratch1 : Memref Cert.KernelIdeal.sig Kind.scVector Space.vmem Cert.KernelIdeal.S3072 EltTy.i32) (Memref.isWhole_whole _) (Memref.whole Cert.KernelIdeal.cc1_scratch2 : Memref Cert.KernelIdeal.sig Kind.scVector Space.vmem Cert.KernelIdeal.S3072 EltTy.f32) (Memref.isWhole_whole _) (Memref.whole Cert.KernelIdeal.cc1_scratch3 : Memref Cert.KernelIdeal.sig Kind.scVector Space.vmem Cert.KernelIdeal.S16 EltTy.f32) (Memref.isWhole_whole _)
            cc1_scoped0 cc1_scoped1 cc1_scoped2 cc1_scoped3 k acc)
          fun acc => invSum d L G X U G ((nRow L).view.read (Elt F) X) ((uRow L).view.read (Elt F) U) (k.val + 1) acc := by
  unfold invSum k1_t1_body
  simp only [Prog.lift, Prog.bind_op, Prog.bind_ret, Prog.pure_eq_ret]
  iintro ⟨H0, H1, H2, %hacc⟩
  have hv := read_n (F := F) d L X k
  have hk : k1_chk1 (View.readAt (Elt F) (Memref.whole Cert.KernelIdeal.cc1_scratch1 : Memref Cert.KernelIdeal.sig Kind.scVector Space.vmem Cert.KernelIdeal.S3072 EltTy.i32).view (Rect.unit (s := S3072) (k1_off2 k) S16.size (k1_off2_inb k)).toLoadRect ((nRow L).view.read (Elt F) X)) :=
    chk_of_lt _ fun j => by rw [hv]; exact hX _
  iapply (wp_load 𝒱₀ (VT d L) none Set.univ (m := (Memref.whole Cert.KernelIdeal.cc1_scratch1 : Memref Cert.KernelIdeal.sig Kind.scVector Space.vmem Cert.KernelIdeal.S3072 EltTy.i32)) (S := Finset.univ) (Finset.subset_univ _)) $$ H1; iintro H1
  rw [wp_assume_of _ _ _ _ hk]
  ihave H0' := (Entails.of_eq (pts_s0_access (F := F) d L _)) $$ H0
  iapply (SparseCore.wp_vectorLoadIdx 𝒱₀ (VT d L) none Set.univ (base := (Memref.whole Cert.KernelIdeal.cc1_scratch0 : Memref Cert.KernelIdeal.sig Kind.scVector Space.vmem Cert.KernelIdeal.S8192 EltTy.f32)) (S := Finset.univ) (q := fullShare) (Finset.subset_univ _)) $$ H0'
  iintro H0'
  ihave H0 := (Entails.of_eq (pts_s0_access (F := F) d L _).symm) $$ H0'
  iapply (wp_load 𝒱₀ (VT d L) none Set.univ (m := (Memref.whole Cert.KernelIdeal.cc1_scratch2 : Memref Cert.KernelIdeal.sig Kind.scVector Space.vmem Cert.KernelIdeal.S3072 EltTy.f32)) (S := Finset.univ) (Finset.subset_univ _)) $$ H2; iintro H2
  rw [wp_ret]; imodintro
  isplitl [H0]; · iexact H0
  isplitl [H1]; · iexact H1
  isplitl [H2]; · iexact H2
  ipureintro
  subst hacc
  have e1 := gat_eq (F := F) G _ _ hv (fun _ => hX _) (k1_idx1_inb _ hk)
  have e2 := read_u (F := F) d L U k
  have e0 : View.read (Elt F) ((Memref.whole Cert.KernelIdeal.cc1_scratch0 : Memref Cert.KernelIdeal.sig Kind.scVector Space.vmem Cert.KernelIdeal.S8192 EltTy.f32).access (Rect.whole S8192)) G = G := by
    funext j
    refine (View.read_apply _ _).trans (congrArg G ?_)
    show (Rect.whole S8192).emb j = j
    exact Rect.emb_whole_apply _ _
  refine congrArg₂ (k1_pay2 _) ?_ e2
  rw [← e0] at e1
  rw [e0] at e1
  exact (congrArg (fun g => loadIdx (F := F) (s := S8192) (t := S16) (e := .f32) g _ _) e0).trans e1

set_option maxHeartbeats 2000000 in
theorem tile_run (d : Dev nD) (L : grid1.Coords) (O : CellTallies nD τ sig (HIx 1)) (W : Waits sig (HIx 1)) (q : PosShare TreeShare)
    (G : Buf (Elt F) ((Memref.whole Cert.KernelIdeal.main_v7_scv : Memref Cert.KernelIdeal.sig Kind.scVector Space.hbm Cert.KernelIdeal.S8192 EltTy.f32).view.loc (VT d L))) (X : Buf (Elt F) ((Memref.whole Cert.KernelIdeal.main_v8_scv : Memref Cert.KernelIdeal.sig Kind.scVector Space.hbm Cert.KernelIdeal.S98304 EltTy.i32).view.loc (VT d L))) (U : Buf (Elt F) ((Memref.whole Cert.KernelIdeal.main_v9_scv : Memref Cert.KernelIdeal.sig Kind.scVector Space.hbm Cert.KernelIdeal.S98304 EltTy.f32).view.loc (VT d L)))
    (hX : ∀ j : S98304.Idx, BitVec.toNat (X j) < 8192)
    (o0 : Buf (Elt F) ((Memref.whole Cert.KernelIdeal.main_v10_scv : Memref Cert.KernelIdeal.sig Kind.scVector Space.hbm Cert.KernelIdeal.S512 EltTy.f32).view.loc (VT d L)))
    (b0 : Buf (Elt F) ((Memref.whole Cert.KernelIdeal.cc1_scratch0 : Memref Cert.KernelIdeal.sig Kind.scVector Space.vmem Cert.KernelIdeal.S8192 EltTy.f32).view.loc (VT d L))) (b1 : Buf (Elt F) ((Memref.whole Cert.KernelIdeal.cc1_scratch1 : Memref Cert.KernelIdeal.sig Kind.scVector Space.vmem Cert.KernelIdeal.S3072 EltTy.i32).view.loc (VT d L)))
    (b2 : Buf (Elt F) ((Memref.whole Cert.KernelIdeal.cc1_scratch2 : Memref Cert.KernelIdeal.sig Kind.scVector Space.vmem Cert.KernelIdeal.S3072 EltTy.f32).view.loc (VT d L))) (b3 : Buf (Elt F) ((Memref.whole Cert.KernelIdeal.cc1_scratch3 : Memref Cert.KernelIdeal.sig Kind.scVector Space.vmem Cert.KernelIdeal.S16 EltTy.f32).view.loc (VT d L))) :
    (iprop(Transfers.MayWaits (VT d L) (default : HIx 1) O
        ∗ ((Memref.whole Cert.KernelIdeal.main_v7_scv : Memref Cert.KernelIdeal.sig Kind.scVector Space.hbm Cert.KernelIdeal.S8192 EltTy.f32).view.loc (VT d L) ↦{q} G)
        ∗ ((nRow L).view.loc (VT d L) ↦[(nRow L).view.set]{fullShare} X)
        ∗ ((uRow L).view.loc (VT d L) ↦[(uRow L).view.set]{fullShare} U)
        ∗ ((oRow L).view.loc (VT d L) ↦[(oRow L).view.set]{fullShare} o0)
        ∗ ((Memref.whole Cert.KernelIdeal.cc1_scratch0 : Memref Cert.KernelIdeal.sig Kind.scVector Space.vmem Cert.KernelIdeal.S8192 EltTy.f32).view.loc (VT d L) ↦{fullShare} b0)
        ∗ ((Memref.whole Cert.KernelIdeal.cc1_scratch1 : Memref Cert.KernelIdeal.sig Kind.scVector Space.vmem Cert.KernelIdeal.S3072 EltTy.i32).view.loc (VT d L) ↦{fullShare} b1)
        ∗ ((Memref.whole Cert.KernelIdeal.cc1_scratch2 : Memref Cert.KernelIdeal.sig Kind.scVector Space.vmem Cert.KernelIdeal.S3072 EltTy.f32).view.loc (VT d L) ↦{fullShare} b2)
        ∗ ((Memref.whole Cert.KernelIdeal.cc1_scratch3 : Memref Cert.KernelIdeal.sig Kind.scVector Space.vmem Cert.KernelIdeal.S16 EltTy.f32).view.loc (VT d L) ↦{fullShare} b3)
        ∗ cells0 d L
        ∗ owes (VT d L) O W) : sProp 𝕄)
      ⊢ wp frame (wpE (defs₀ (F := F)) 𝒱₀ (VT d L) none) Set.univ
          (cc1_k L (Memref.whole Cert.KernelIdeal.main_v7_scv : Memref Cert.KernelIdeal.sig Kind.scVector Space.hbm Cert.KernelIdeal.S8192 EltTy.f32) (Memref.isWhole_whole _) (Memref.whole Cert.KernelIdeal.main_v8_scv : Memref Cert.KernelIdeal.sig Kind.scVector Space.hbm Cert.KernelIdeal.S98304 EltTy.i32) (Memref.isWhole_whole _) (Memref.whole Cert.KernelIdeal.main_v9_scv : Memref Cert.KernelIdeal.sig Kind.scVector Space.hbm Cert.KernelIdeal.S98304 EltTy.f32) (Memref.isWhole_whole _) (Memref.whole Cert.KernelIdeal.main_v10_scv : Memref Cert.KernelIdeal.sig Kind.scVector Space.hbm Cert.KernelIdeal.S512 EltTy.f32) (Memref.isWhole_whole _)
            (Memref.whole Cert.KernelIdeal.cc1_scratch0 : Memref Cert.KernelIdeal.sig Kind.scVector Space.vmem Cert.KernelIdeal.S8192 EltTy.f32) (Memref.isWhole_whole _) (Memref.whole Cert.KernelIdeal.cc1_scratch1 : Memref Cert.KernelIdeal.sig Kind.scVector Space.vmem Cert.KernelIdeal.S3072 EltTy.i32) (Memref.isWhole_whole _) (Memref.whole Cert.KernelIdeal.cc1_scratch2 : Memref Cert.KernelIdeal.sig Kind.scVector Space.vmem Cert.KernelIdeal.S3072 EltTy.f32) (Memref.isWhole_whole _) (Memref.whole Cert.KernelIdeal.cc1_scratch3 : Memref Cert.KernelIdeal.sig Kind.scVector Space.vmem Cert.KernelIdeal.S16 EltTy.f32) (Memref.isWhole_whole _)
            cc1_scoped0 cc1_scoped1 cc1_scoped2 cc1_scoped3)
          fun _ => iprop(((Memref.whole Cert.KernelIdeal.main_v7_scv : Memref Cert.KernelIdeal.sig Kind.scVector Space.hbm Cert.KernelIdeal.S8192 EltTy.f32).view.loc (VT d L) ↦{q} G)
            ∗ ((nRow L).view.loc (VT d L) ↦[(nRow L).view.set]{fullShare} X)
            ∗ ((uRow L).view.loc (VT d L) ↦[(uRow L).view.set]{fullShare} U)
            ∗ (∃ f, ((oRow L).view.loc (VT d L) ↦[(oRow L).view.set]{fullShare} f) ∗ ⌜(oRow L).view.read (Elt F) f = sumsAt L G X U 192⌝)
            ∗ (∃ f, (Memref.whole Cert.KernelIdeal.cc1_scratch0 : Memref Cert.KernelIdeal.sig Kind.scVector Space.vmem Cert.KernelIdeal.S8192 EltTy.f32).view.loc (VT d L) ↦{fullShare} f)
            ∗ (∃ f, (Memref.whole Cert.KernelIdeal.cc1_scratch1 : Memref Cert.KernelIdeal.sig Kind.scVector Space.vmem Cert.KernelIdeal.S3072 EltTy.i32).view.loc (VT d L) ↦{fullShare} f)
            ∗ (∃ f, (Memref.whole Cert.KernelIdeal.cc1_scratch2 : Memref Cert.KernelIdeal.sig Kind.scVector Space.vmem Cert.KernelIdeal.S3072 EltTy.f32).view.loc (VT d L) ↦{fullShare} f)
            ∗ (∃ f, (Memref.whole Cert.KernelIdeal.cc1_scratch3 : Memref Cert.KernelIdeal.sig Kind.scVector Space.vmem Cert.KernelIdeal.S16 EltTy.f32).view.loc (VT d L) ↦{fullShare} f)
            ∗ cells0 d L
            ∗ ∃ W', ⌜∀ p ∈ W', p ∈ W ∨ p.2 = none⌝ ∗ owes (VT d L) O W') := by
  sl_unfold [cc1_k]
  iintro ⟨#Hmw, HG, HX, HU, HO, H0, H1, H2, H3, ⟨Hc0, Hc1, Hc2, Hc3⟩, HW⟩
  sl_exec
  have e0 : View.write (Elt F) (Memref.whole Cert.KernelIdeal.cc1_scratch0 : Memref Cert.KernelIdeal.sig Kind.scVector Space.vmem Cert.KernelIdeal.S8192 EltTy.f32).view b0 (tile_run.sl.dma0 d L G) Finset.univ = G := View.write_whole_univ _ _ _
  have e1 : View.write (Elt F) (Memref.whole Cert.KernelIdeal.cc1_scratch1 : Memref Cert.KernelIdeal.sig Kind.scVector Space.vmem Cert.KernelIdeal.S3072 EltTy.i32).view b1 (tile_run.sl.dma0_1 d L X) Finset.univ = (nRow L).view.read (Elt F) X := View.write_whole_univ _ _ _
  have e2 : View.write (Elt F) (Memref.whole Cert.KernelIdeal.cc1_scratch2 : Memref Cert.KernelIdeal.sig Kind.scVector Space.vmem Cert.KernelIdeal.S3072 EltTy.f32).view b2 (tile_run.sl.dma0_2 d L U) Finset.univ = (uRow L).view.read (Elt F) U := View.write_whole_univ _ _ _
  rw [e0, e1, e2]
  sl_for (invSum d L G X U G ((nRow L).view.read (Elt F) X) ((uRow L).view.read (Elt F) U)) $$ [H0 H1 H2]
  case region =>
    intro k acc
    exact step_run d L G X U hX k acc
  · unfold invSum
    isplitl [H0]; · iexact H0
    isplitl [H1]; · iexact H1
    isplitl [H2]; · iexact H2
    ipureintro; rfl
  iintro %acc HI
  unfold invSum
  icases HI with ⟨H0, H1, H2, %hacc⟩
  sl_exec
  sl_step
  isplitl [HG]; · iexact HG
  isplitl [HX]; · iexact HX
  isplitl [HU]; · iexact HU
  isplitl [HO]
  · iexists _; isplitl; · iexact HO
    ipureintro
    refine (read_wrote _ _ _).trans ?_
    unfold tile_run.sl.dma2 tile_run.sl.H3_1
    refine (read_put (by funext a; fin_cases a; rfl) _ _ _ _).trans hacc
  isplitl [H0]; · iexists _; iexact H0
  isplitl [H1]; · iexists _; iexact H1
  isplitl [H2]; · iexists _; iexact H2
  isplitl [H3]; · iexists _; iexact H3
  isplitl [Hc0 Hc1 Hc2 Hc3]
  · isplitl [Hc0]; · iexact Hc0
    isplitl [Hc1]; · iexact Hc1
    isplitl [Hc2]; · iexact Hc2
    iexact Hc3
  iexists _; isplitr; swap; · iexact HW
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  · exact .inl hp

end Cert.Proof

end
-- ==== Proof.ScLaunch.lean ====
/-
  The SparseCore call as the launch theorem takes it: what a task is handed and gives back, the task's run in that
  spelling, and how the call's whole arrays split into the tasks' shares.
-/
module

public import proofs.«01_k».proof.Proof.ScBody

@[expose] public section

set_option maxRecDepth 16384

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The call's arrays and the tasks' shares of them -/

abbrev gLoc (d : Dev nD) : Loc nD τ sig := (SparseCore.T d).loc main_v7
abbrev nLoc (d : Dev nD) : Loc nD τ sig := (SparseCore.T d).loc main_v8
abbrev uLoc (d : Dev nD) : Loc nD τ sig := (SparseCore.T d).loc main_v9
abbrev oLoc (d : Dev nD) : Loc nD τ sig := (SparseCore.T d).loc main_v10

def coordsV (c : Fin (grid1.bound 0)) (s : Fin (grid1.bound 1)) : grid1.Coords :=
  fun | 0 => c | 1 => s | ⟨_ + 2, h⟩ => absurd h (Nat.not_lt.2 (Nat.le_add_left _ _))

abbrev nSet (p : Fin 2 × Fin 16) : Finset S98304.Idx := (nRow (coordsV p.1 p.2)).view.set
abbrev uSet (p : Fin 2 × Fin 16) : Finset S98304.Idx := (uRow (coordsV p.1 p.2)).view.set
abbrev oSet (p : Fin 2 × Fin 16) : Finset S512.Idx := (oRow (coordsV p.1 p.2)).view.set

theorem mem_nSet (p : Fin 2 × Fin 16) (j : S98304.Idx) :
    j ∈ nSet p ↔ 6144 * p.2.val + 3072 * p.1.val ≤ (j 0).val ∧ (j 0).val < 6144 * p.2.val + 3072 * p.1.val + 3072 := by
  have h : nSet p = (Rect.unit (s := S98304) (k1_off1 (coordsV p.1 p.2)) S3072.size (k1_off1_inb _)).set := by
    show ((View.whole (main_v8_scv : Ref sig .scVector)).slice _).set = _
    rw [View.set_slice]; ext x; simp [View.whole]
  rw [h, Rect.mem_set_unit]
  have e := congrFun (k1_off1_eq (coordsV p.1 p.2)) 0
  constructor
  · intro ha
    have := ha 0
    rw [e] at this
    exact this
  · intro ha a
    obtain rfl : a = 0 := Subsingleton.elim _ _
    rw [e]
    exact ha

theorem uSet_eq (p : Fin 2 × Fin 16) : uSet p = nSet p := rfl

theorem mem_oSet (p : Fin 2 × Fin 16) (j : S512.Idx) :
    j ∈ oSet p ↔ 32 * p.2.val + 16 * p.1.val ≤ (j 0).val ∧ (j 0).val < 32 * p.2.val + 16 * p.1.val + 16 := by
  have h : oSet p = (Rect.unit (s := S512) (k1_off4 (coordsV p.1 p.2)) S16.size (k1_off4_inb _)).set := by
    show ((View.whole (main_v10_scv : Ref sig .scVector)).slice _).set = _
    rw [View.set_slice]; ext x; simp [View.whole]
  rw [h, Rect.mem_set_unit]
  have e := congrFun (k1_off4_eq (coordsV p.1 p.2)) 0
  constructor
  · intro ha
    have := ha 0
    rw [e] at this
    exact this
  · intro ha a
    obtain rfl : a = 0 := Subsingleton.elim _ _
    rw [e]
    exact ha

theorem nSet_disjoint : ∀ p ∈ (Finset.univ : Finset (Fin 2 × Fin 16)), ∀ p' ∈ (Finset.univ : Finset (Fin 2 × Fin 16)), p ≠ p' → Disjoint (nSet p) (nSet p') := by
  intro p _ p' _ hne
  rw [Finset.disjoint_left]
  intro j hj hj'
  rw [mem_nSet] at hj hj'
  have := p.1.isLt; have := p'.1.isLt
  exact hne (Prod.ext (Fin.ext (by omega)) (Fin.ext (by omega)))

theorem oSet_disjoint : ∀ p ∈ (Finset.univ : Finset (Fin 2 × Fin 16)), ∀ p' ∈ (Finset.univ : Finset (Fin 2 × Fin 16)), p ≠ p' → Disjoint (oSet p) (oSet p') := by
  intro p _ p' _ hne
  rw [Finset.disjoint_left]
  intro j hj hj'
  rw [mem_oSet] at hj hj'
  have := p.1.isLt; have := p'.1.isLt
  exact hne (Prod.ext (Fin.ext (by omega)) (Fin.ext (by omega)))

theorem nSet_cover : (Finset.univ : Finset (Fin 2 × Fin 16)).biUnion nSet = Finset.univ := by
  ext j
  simp only [Finset.mem_biUnion, Finset.mem_univ, true_and, iff_true]
  have hj : (j 0).val < 98304 := (j 0).isLt
  refine ⟨(⟨(j 0).val / 3072 % 2, by omega⟩, ⟨(j 0).val / 6144, by omega⟩), ?_⟩
  rw [mem_nSet]
  show 6144 * ((j 0).val / 6144) + 3072 * ((j 0).val / 3072 % 2) ≤ _ ∧ _ < 6144 * ((j 0).val / 6144) + 3072 * ((j 0).val / 3072 % 2) + 3072
  omega

theorem oSet_cover : (Finset.univ : Finset (Fin 2 × Fin 16)).biUnion oSet = Finset.univ := by
  ext j
  simp only [Finset.mem_biUnion, Finset.mem_univ, true_and, iff_true]
  have hj : (j 0).val < 512 := (j 0).isLt
  refine ⟨(⟨(j 0).val / 16 % 2, by omega⟩, ⟨(j 0).val / 32, by omega⟩), ?_⟩
  rw [mem_oSet]
  show 32 * ((j 0).val / 32) + 16 * ((j 0).val / 16 % 2) ≤ _ ∧ _ < 32 * ((j 0).val / 32) + 16 * ((j 0).val / 16 % 2) + 16
  omega

/-- The share of the table a task reads at. -/
def shareOf (p : Fin 2 × Fin 16) : PosShare TreeShare :=
  Transfers.dealOf (Transfers.dealOf fullShare (Finset.univ : Finset (Fin 2)) p.1) (Finset.univ : Finset (Fin 16)) p.2

/-! ## The arrays' contents over the call -/

/-- What the call leaves of the partial sums: entry `j` is lane `j % 16` of the task of number `j / 16`. -/
def partials (G : Vec F S8192 .f32) (X : Vec F S98304 .i32) (U : Vec F S98304 .f32) : Vec F S512 .f32 := fun j =>
  sumsAt (coordsV ⟨(j 0).val / 16 % 2, Nat.mod_lt _ (by decide)⟩
      ⟨(j 0).val / 32, by have h : (j 0).val < 512 := (j 0).isLt; show _ < 16; omega⟩) G X U 192
    (ValueIdx.ix1 ⟨(j 0).val % 16, Nat.mod_lt _ (by decide)⟩)

variable (G : Dev nD → Vec F S8192 .f32) (X : Dev nD → Vec F S98304 .i32) (U : Dev nD → Vec F S98304 .f32) (o : Dev nD → Vec F S512 .f32)

/-- A task's resources, the partial sums at `f`. -/
def tileRes (d : Dev nD) (f : Vec F S512 .f32) (p : Fin 2 × Fin 16) : sProp 𝕄 :=
  iprop((gLoc d ↦{shareOf p} G d) ∗ (nLoc d ↦[nSet p]{fullShare} X d) ∗ (uLoc d ↦[uSet p]{fullShare} U d) ∗ (oLoc d ↦[oSet p]{fullShare} f))

/-- The whole arrays, the partial sums at `f`. -/
def wholeRes (d : Dev nD) (f : Vec F S512 .f32) : sProp 𝕄 :=
  iprop((gLoc d ↦{fullShare} G d) ∗ (nLoc d ↦{fullShare} X d) ∗ (uLoc d ↦{fullShare} U d) ∗ (oLoc d ↦{fullShare} f))

theorem whole_tiles (d : Dev nD) (f : Vec F S512 .f32) :
    (wholeRes G X U d f : sProp 𝕄) = bigSep Finset.univ fun c : Fin 2 => bigSep Finset.univ fun i : Fin 16 => tileRes G X U d f (c, i) := by
  rw [← bigSep_univ_prod (fun p : Fin 2 × Fin 16 => tileRes G X U d f p)]
  unfold tileRes wholeRes
  rw [bigSep_sep', bigSep_sep', bigSep_sep', ← pointsTo_biUnion (ℓ := nLoc d) _ nSet nSet_disjoint,
    ← pointsTo_biUnion (ℓ := uLoc d) _ uSet nSet_disjoint, ← pointsTo_biUnion (ℓ := oLoc d) _ oSet oSet_disjoint,
    nSet_cover, show (Finset.univ : Finset (Fin 2 × Fin 16)).biUnion uSet = Finset.univ from nSet_cover, oSet_cover]
  congr 1
  rw [bigSep_univ_prod, Transfers.pointsTo_deal (Finset.univ : Finset (Fin 2)) Finset.univ_nonempty]
  refine bigSep_congr fun c _ => ?_
  rw [Transfers.pointsTo_deal (Finset.univ : Finset (Fin 16)) Finset.univ_nonempty]
  rfl

theorem nCore_zero : (K (F := F)).nCore 0 = 2 := rfl
theorem nSub_zero : (K (F := F)).nSub 0 = 16 := rfl

abbrev outs (d : Dev nD) : Vec F S512 .f32 := partials (G d) (X d) (U d)

/-- What the handshakes carry. -/
def P : (K (F := F)).Pay (nD := nD) (Val := Elt F) (Name := ℕ) (U := UU) where
  st := fun | 0 => fun d c => bigSep Finset.univ fun i : Fin 16 => tileRes G X U d (o d) (Fin.cast nCore_zero c, i)
  dn := fun | 0 => fun d c => bigSep Finset.univ fun i : Fin 16 => tileRes G X U d (outs G X U d) (Fin.cast nCore_zero c, i)
  go := fun | 0 => fun d c i => tileRes G X U d (o d) (Fin.cast nCore_zero c, Fin.cast nSub_zero i)
  td := fun | 0 => fun d c i => tileRes G X U d (outs G X U d) (Fin.cast nCore_zero c, Fin.cast nSub_zero i)
  x := fun _ _ => iprop(emp)

instance P_storable : (P (F := F) G X U o).IsStorable where
  st | 0 => fun d c => by unfold P tileRes; infer_instance
  dn | 0 => fun d c => by unfold P tileRes; infer_instance
  go | 0 => fun d c i => by unfold P tileRes; infer_instance
  td | 0 => fun d c i => by unfold P tileRes; infer_instance

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P G X U o) 0 := by
  intro d c
  show (bigSep Finset.univ fun i : Fin 16 => tileRes G X U d (o d) (Fin.cast nCore_zero c, i))
    ⊢ |={Set.univ}=> iprop((bigSep Finset.univ fun i : Fin ((K (F := F)).nSub 0) => tileRes G X U d (o d) (Fin.cast nCore_zero c, Fin.cast nSub_zero i))
      ∗ ((bigSep Finset.univ fun i : Fin ((K (F := F)).nSub 0) => tileRes G X U d (outs G X U d) (Fin.cast nCore_zero c, Fin.cast nSub_zero i))
        -∗ (bigSep Finset.univ fun i : Fin 16 => tileRes G X U d (outs G X U d) (Fin.cast nCore_zero c, i))))
  rw [bigSep_subs (F := F) (fun i => tileRes G X U d (o d) (Fin.cast nCore_zero c, i)),
    bigSep_subs (F := F) (fun i => tileRes G X U d (outs G X U d) (Fin.cast nCore_zero c, i))]
  iintro H; imodintro
  isplitl [H]; · iexact H
  iintro H; iexact H

theorem st_eq (d : Dev nD) : (bigSep Finset.univ fun c : Fin ((K (F := F)).nCore 0) => (P G X U o).st 0 d c) = wholeRes G X U d (o d) := by
  rw [whole_tiles]
  exact bigSep_cores (F := F) fun c => bigSep Finset.univ fun i : Fin 16 => tileRes G X U d (o d) (c, i)
theorem dn_eq (d : Dev nD) : (bigSep Finset.univ fun c : Fin ((K (F := F)).nCore 0) => (P G X U o).dn 0 d c) = wholeRes G X U d (outs G X U d) := by
  rw [whole_tiles]
  exact bigSep_cores (F := F) fun c => bigSep Finset.univ fun i : Fin 16 => tileRes G X U d (outs G X U d) (c, i)

/-! ## One task in the launch's spelling -/

section Tile

variable (d : Dev nD) (L : grid1.Coords)

abbrev cell0 : GSem nD τ sig := (VT d L, .dma cc1_scoped0.sem)
abbrev cell1 : GSem nD τ sig := (VT d L, .dma cc1_scoped1.sem)
abbrev cell2 : GSem nD τ sig := (VT d L, .dma cc1_scoped2.sem)
abbrev cell3 : GSem nD τ sig := (VT d L, .dma cc1_scoped3.sem)

omit [FloatOps F] in
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide,
      (mem_ownCells (g := cell3 d L)).mpr ⟨rfl, by show (SemLoc.dma cc1_scoped3.sem : SemLoc sig).isScoped .scVector = true; decide⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

end Tile

/-- What a task writes is its share of the partial sums. -/
theorem out_eq (p : Fin 2 × Fin 16) (g : Vec F S8192 .f32) (x : Vec F S98304 .i32) (u : Vec F S98304 .f32) (f : Vec F S512 .f32)
    (h : (oRow (coordsV p.1 p.2)).view.read (Elt F) f = sumsAt (coordsV p.1 p.2) g x u 192) :
    ∀ j ∈ oSet p, f j = partials g x u j := by
  intro j hj
  rw [mem_oSet] at hj
  have hp := p.1.isLt
  have e := congrFun h (ValueIdx.ix1 ⟨(j 0).val % 16, Nat.mod_lt _ (by decide)⟩)
  have hemb : (oRow (coordsV p.1 p.2)).view.emb (ValueIdx.ix1 ⟨(j 0).val % 16, Nat.mod_lt _ (by decide)⟩) = j := by
    refine funext (α := Fin 1) fun a => ?_
    obtain rfl : a = 0 := Subsingleton.elim _ _
    refine Fin.ext ?_
    have e4 := congrFun (k1_off4_eq (coordsV p.1 p.2)) 0
    show k1_off4 (coordsV p.1 p.2) 0 + 1 * ((j 0).val % 16) = (j 0).val
    rw [e4]
    show 32 * p.2.val + 16 * p.1.val + 1 * ((j 0).val % 16) = (j 0).val
    omega
  have e' : f j = sumsAt (coordsV p.1 p.2) g x u 192 (ValueIdx.ix1 ⟨(j 0).val % 16, Nat.mod_lt _ (by decide)⟩) := by
    rw [← e]
    show f j = f _
    rw [hemb]
  rw [e']
  unfold partials
  have h1 : (⟨(j 0).val / 16 % 2, Nat.mod_lt _ (by decide)⟩ : Fin (grid1.bound 0)) = p.1 := Fin.ext (by show (j 0).val / 16 % 2 = _; omega)
  have h2 : ∀ hh, (⟨(j 0).val / 32, hh⟩ : Fin (grid1.bound 1)) = p.2 := fun _ => Fin.ext (by show (j 0).val / 32 = _; omega)
  rw [h1, h2]

theorem tile_body (hF : (K (F := F)).Facts) (d : Dev nD) (p : Fin 2 × Fin 16) (hX : ∀ j : S98304.Idx, BitVec.toNat (X d j) < 8192)
    (O : CellTallies nD τ sig (HIx 1)) (W : Waits sig (HIx 1)) (hO : ∀ g, O g none = 0) :
    iprop(levAts (K (F := F)).L (K (F := F)).lev ∗ emp ∗ tileRes G X U d (o d) p
        ∗ scopedBufs (VT d (coordsV p.1 p.2)) ∗ scopedSems0 (VT d (coordsV p.1 p.2)) ∗ owes (VT d (coordsV p.1 p.2)) O W)
      ⊢ wp frame (wpE (defs₀ (F := F)) 𝒱₀ (VT d (coordsV p.1 p.2)) none) Set.univ
          (cc1_k (coordsV p.1 p.2) gV (Memref.isWhole_whole _) nV (Memref.isWhole_whole _) uV (Memref.isWhole_whole _) oV (Memref.isWhole_whole _)
            s0V (Memref.isWhole_whole _) s1V (Memref.isWhole_whole _) s2V (Memref.isWhole_whole _) s3V (Memref.isWhole_whole _)
            cc1_scoped0 cc1_scoped1 cc1_scoped2 cc1_scoped3)
          fun _ => iprop(tileRes G X U d (outs G X U d) p ∗ scopedBufs (VT d (coordsV p.1 p.2)) ∗ scopedSems0 (VT d (coordsV p.1 p.2))
            ∗ ∃ W', ⌜∀ p ∈ W', p ∈ W ∨ p.2 = none⌝ ∗ owes (VT d (coordsV p.1 p.2)) O W') := by
  rw [(K (F := F)).scopedBufs_V hF d (cV (coordsV p.1 p.2)) (jV (coordsV p.1 p.2)),
    SparseCore.Cfg.scopedSems0_V (Val := Elt F) d (cV (coordsV p.1 p.2)) (jV (coordsV p.1 p.2)), ownSems0_V, ownBufs_V]
  iintro ⟨#Hlv, -, Hres, ⟨⟨%b0, Hb0⟩, ⟨%b1, Hb1⟩, ⟨%b2, Hb2⟩, ⟨%b3, Hb3⟩, Hbufs⟩, ⟨Hs0, Hs1, Hs2, Hs3, Hsems⟩, HO⟩
  ihave Hmw := ((K (F := F)).mayWaits_none (thr := VT d (coordsV p.1 p.2)) hO) $$ Hlv
  unfold tileRes
  icases Hres with ⟨Hg, Hn, Hu, Ho⟩
  iapply (wp_wand_r frame)
  isplitl [Hmw Hg Hn Hu Ho Hb0 Hb1 Hb2 Hb3 Hs0 Hs1 Hs2 Hs3 HO]
  · iapply (tile_run d (coordsV p.1 p.2) O W (shareOf p) (G d) (X d) (U d) hX (o d) b0 b1 b2 b3)
    isplitl [Hmw]; · iexact Hmw
    isplitl [Hg]; · iexact Hg
    isplitl [Hn]; · iexact Hn
    isplitl [Hu]; · iexact Hu
    isplitl [Ho]; · iexact Ho
    isplitl [Hb0]; · iexact Hb0
    isplitl [Hb1]; · iexact Hb1
    isplitl [Hb2]; · iexact Hb2
    isplitl [Hb3]; · iexact Hb3
    isplitl [Hs0 Hs1 Hs2 Hs3]
    · isplitl [Hs0]; · iexact Hs0
      isplitl [Hs1]; · iexact Hs1
      isplitl [Hs2]; · iexact Hs2
      iexact Hs3
    iexact HO
  iintro %_ ⟨Hg, Hn, Hu, ⟨%f, Ho, %hf⟩, Hb0, Hb1, Hb2, Hb3, ⟨Hs0, Hs1, Hs2, Hs3⟩, HO⟩
  ihave Ho' := (Entails.of_eq (pointsTo_congr (ℓ := oLoc d) (q := fullShare) (out_eq p (G d) (X d) (U d) f hf))) $$ Ho
  isplitl [Hg Hn Hu Ho']
  · isplitl [Hg]; · iexact Hg
    isplitl [Hn]; · iexact Hn
    isplitl [Hu]; · iexact Hu
    iexact Ho'
  isplitl [Hb0 Hb1 Hb2 Hb3 Hbufs]
  · isplitl [Hb0]; · iexact Hb0
    isplitl [Hb1]; · iexact Hb1
    isplitl [Hb2]; · iexact Hb2
    isplitl [Hb3]; · iexact Hb3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

theorem defs₀_vector (c : Fin τ.nSC) (s : Fin τ.nSub) :
    defs₀ (F := F) (.scVector c s) 1 ()
      = SparseCore.onTile hcore1 hsub1 (fun c s => cc1_k (coordsV c s)
            gV (Memref.isWhole_whole _) nV (Memref.isWhole_whole _) uV (Memref.isWhole_whole _) oV (Memref.isWhole_whole _)
            s0V (Memref.isWhole_whole _) s1V (Memref.isWhole_whole _) s2V (Memref.isWhole_whole _) s3V (Memref.isWhole_whole _)
            cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ d (j : S98304.Idx), BitVec.toNat (X d j) < 8192) :
    (K (F := F)).TileObl (D (F := F)) 𝒱 (P G X U o) v₀ 0 := by
  intro d c i O W hO _ _
  simp only [show (P G X U o).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body G X U o hF d (Fin.cast nCore_zero c, Fin.cast nSub_zero i) (hX d) O W hO).trans (wp_mono frame _ _ fun _ => obl_post)

end Cert.Proof

end
-- ==== Proof.Main.lean ====
/-
  @main: host operations, the TensorCore's kernel, reshapes, the SparseCore call, host operations; and the whole
  program's run from any launch memory, with the contents it leaves.
-/
module

public import proofs.«01_k».proof.Proof.TcRegion
public import proofs.«01_k».proof.Proof.ScLaunch
public import Idealize.ShloMosaic.Lib.Pipeline.Frame
public import Idealize.ShloMosaic.Lib.Pipeline.FrameTail
public import Idealize.ShloMosaic.Lib.Pipeline.RegionArrays
public import Idealize.ShloMosaic.Lib.Pipeline.RegionArraysS

@[expose] public section

set_option maxRecDepth 16384

noncomputable section

namespace Cert.Proof

open Cert.KernelIdeal Cert.KernelIdeal.Gen
open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## @main's host operations -/

/-- Those before the TensorCore's kernel. -/
abbrev ops0 : List (HloOp τ sig (Elt F)) :=
  [ StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S8192x3, .f32⟩) (.of main_call0_v0 : StableHlo.TRef sig ⟨S_, .f32⟩) (.of main_v0 : StableHlo.TRef sig ⟨S8192x8, .f32⟩) (fun x v => pad S8192x8 ![0, 0] ![0, 5] ![0, 0] x v pads_S8192x3_S8192x8_000_050 h_S_),
    StableHlo.unary main_v0 main_v1 ((transpose S8x8192 [1, 0] · transposes_S8192x8_S8x8192_1_0) : (⟨S8192x8, .f32⟩ : BufTy).Contents (Elt F) → (⟨S8x8192, .f32⟩ : BufTy).Contents (Elt F)),
    StableHlo.reshape main_arg4 main_v2 (rfl : (.f32 : EltTy) = .f32) shapeCasts_S10_S1x10,
    StableHlo.reshape main_arg6 main_v3 (rfl : (.f32 : EltTy) = .f32) shapeCasts_S10_S1x10,
    StableHlo.reshape main_arg8 main_v4 (rfl : (.f32 : EltTy) = .f32) shapeCasts_S128_S1x128,
    StableHlo.reshape main_arg10 main_v5 (rfl : (.f32 : EltTy) = .f32) shapeCasts_S128_S1x128 ]

/-- Those between the two kernels. -/
abbrev ops1 : List (HloOp τ sig (Elt F)) :=
  [ StableHlo.reshape main_v6_4 main_v7 (rfl : (.f32 : EltTy) = .f32) shapeCasts_S8192x1_S8192,
    StableHlo.reshape main_v6_2 main_v8 (rfl : (.i32 : EltTy) = .i32) shapeCasts_S8192x12_S98304,
    StableHlo.reshape main_v6_3 main_v9 (rfl : (.f32 : EltTy) = .f32) shapeCasts_S8192x12_S98304 ]

/-- Those after the SparseCore call. -/
abbrev ops2 : List (HloOp τ sig (Elt F)) :=
  [ StableHlo.nullary main_cst (constant S_ .f32 0x00000000#32),
    StableHlo.binary main_v10 main_cst main_v11 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v6_5 main_v12 ((extractStridedSlice S64x1x1 ![0, 0, 0] · slices_S64x1x128_S64x1x1_0_0_0) : (⟨S64x1x128, .f32⟩ : BufTy).Contents (Elt F) → (⟨S64x1x1, .f32⟩ : BufTy).Contents (Elt F)),
    StableHlo.reshape main_v12 main_v13 (rfl : (.f32 : EltTy) = .f32) shapeCasts_S64x1x1_S64,
    StableHlo.nullary main_cst_0 (constant S_ .f32 0x00000000#32),
    StableHlo.binary main_v13 main_cst_0 main_v14 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_1 (constant S_ .f32 0x46C00000#32),
    StableHlo.binary main_v14 main_cst_1 main_v15 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x47C00000#32),
    StableHlo.binary main_v11 main_cst_2 main_v16 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3DCCCCCD#32),
    StableHlo.binary main_cst_3 main_v16 main_v17 (mulf : (⟨S_, .f32⟩ : BufTy).Contents (Elt F) → (⟨S_, .f32⟩ : BufTy).Contents (Elt F) → (⟨S_, .f32⟩ : BufTy).Contents (Elt F)),
    StableHlo.binary main_v15 main_v17 main_v18 (addf : (⟨S_, .f32⟩ : BufTy).Contents (Elt F) → (⟨S_, .f32⟩ : BufTy).Contents (Elt F) → (⟨S_, .f32⟩ : BufTy).Contents (Elt F)) ]

theorem ops0_sub : ∀ op ∈ (ops0 : List (HloOp τ sig (Elt F))), op.bufs ⊆ StableHlo.tcRefs τ sig :=
  List.forall_iff_forall_mem.mp
    ⟨StableHlo.nullary_bufs_sub .., StableHlo.unary_bufs_sub .., StableHlo.binary_bufs_sub .., StableHlo.unary_bufs_sub .., StableHlo.reshape_bufs_sub ..,
      StableHlo.reshape_bufs_sub .., StableHlo.reshape_bufs_sub .., StableHlo.reshape_bufs_sub ..⟩

theorem ops1_sub : ∀ op ∈ (ops1 : List (HloOp τ sig (Elt F))), op.bufs ⊆ StableHlo.tcRefs τ sig :=
  List.forall_iff_forall_mem.mp ⟨StableHlo.reshape_bufs_sub .., StableHlo.reshape_bufs_sub .., StableHlo.reshape_bufs_sub ..⟩

theorem ops2_sub : ∀ op ∈ (ops2 : List (HloOp τ sig (Elt F))), op.bufs ⊆ StableHlo.tcRefs τ sig :=
  List.forall_iff_forall_mem.mp
    ⟨StableHlo.nullary_bufs_sub .., StableHlo.binary_bufs_sub .., StableHlo.unary_bufs_sub .., StableHlo.reshape_bufs_sub .., StableHlo.nullary_bufs_sub ..,
      StableHlo.binary_bufs_sub .., StableHlo.nullary_bufs_sub .., StableHlo.binary_bufs_sub .., StableHlo.nullary_bufs_sub .., StableHlo.binary_bufs_sub ..,
      StableHlo.nullary_bufs_sub .., StableHlo.binary_bufs_sub .., StableHlo.binary_bufs_sub ..⟩

theorem ops0_fresh : ∀ op ∈ (ops0 : List (HloOp τ sig (Elt F))), op.fresh = ∅ :=
  List.forall_iff_forall_mem.mp (by simp only [List.Forall]; repeat' constructor)
theorem ops1_fresh : ∀ op ∈ (ops1 : List (HloOp τ sig (Elt F))), op.fresh = ∅ :=
  List.forall_iff_forall_mem.mp (by simp only [List.Forall]; repeat' constructor)
theorem ops2_fresh : ∀ op ∈ (ops2 : List (HloOp τ sig (Elt F))), op.fresh = ∅ :=
  List.forall_iff_forall_mem.mp (by simp only [List.Forall]; repeat' constructor)

theorem main_eq (d : Dev nD) : main (F := F) d =
    StableHlo.seq ops0 >>= fun _ => Prog.lift (.customCall (SparseCore.inner (Pipeline.entry 0)) ()) >>= fun _ =>
      StableHlo.seq ops1 >>= fun _ => sc.run d 0 >>= fun _ => StableHlo.seq ops2 >>= fun _ => pure ⟨⟩ := by
  rfl

/-! ## The contents between the stages -/

variable (m : (ℓ : Loc nD τ sig) → Buf (Elt F) ℓ) (ρ : Dev nD → PrngReg)

/-- At the launch. -/
abbrev V0 (d : Dev nD) : Valuation τ sig (Elt F) := fun b => m (d, b)
/-- When the TensorCore's kernel starts. -/
abbrev V1 (d : Dev nD) : Valuation τ sig (Elt F) := StableHlo.after ops0 (V0 m d)
/-- When it has ended. -/
abbrev V2 (d : Dev nD) : Valuation τ sig (Elt F) := Va (V1 m) d
/-- At the SparseCore call. -/
abbrev V3 (d : Dev nD) : Valuation τ sig (Elt F) := StableHlo.after ops1 (V2 m d)

/-- The table, the neighbours' list, the targets and the partial sums' old contents, as the call finds them. -/
def Gd (d : Dev nD) : Vec F S8192 .f32 := V3 m d (Proc.devRef .tc main_v7)
def Xd (d : Dev nD) : Vec F S98304 .i32 := V3 m d (Proc.devRef .tc main_v8)
def Ud (d : Dev nD) : Vec F S98304 .f32 := V3 m d (Proc.devRef .tc main_v9)
def od (d : Dev nD) : Vec F S512 .f32 := V3 m d (Proc.devRef .tc main_v10)

/-- After the SparseCore call. -/
def V4 (d : Dev nD) : Valuation τ sig (Elt F) :=
  Function.update (V3 m d) (Proc.devRef .tc main_v10) (outs (Gd m) (Xd m) (Ud m) d : Vec F S512 .f32)
/-- At the end. -/
abbrev V5 (d : Dev nD) : Valuation τ sig (Elt F) := StableHlo.after ops2 (V4 m d)

abbrev PP : (K (F := F)).Pay (nD := nD) (Val := Elt F) (Name := ℕ) (U := UU) := P (Gd m) (Xd m) (Ud m) (od m)

/-! ## The launch element -/

abbrev pinned := Pipeline.pin (pcfgs (F := F)) adms
theorem pinj : Function.Injective (Pipeline.cellOf (nD := nD) (τ := τ) (pinned (F := F))) := (kit (F := F)).cellOf_inj adms

def u₀ : UU := (initOf (K (F := F)).hsCells (K (F := F)).hsToks, (initOf (Pipeline.cells (pinned (F := F)) pinj) (Pipeline.launchToks (pinned (F := F)) pinj), 1))

/-- The pipeline's ghost state on a device. -/
def Gh (d : Dev nD) : sProp 𝕄 :=
  iprop(Pipeline.cellsGhost (pinned (F := F)) EP 0 d ∗ Pipeline.toksInit (pinned (F := F)) EP 0 d)

theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op _)))

theorem bigSep_emp' {I : Type} (s : Finset I) : (bigSep s fun _ => iprop(emp)) = (iprop(emp) : sProp 𝕄) := bigSep_emp_const s

theorem Gh_eq : (bigSep Finset.univ fun d : Dev nD => Gh (F := F) d)
    = iprop((bigSep Finset.univ fun c : Dev nD => bigSep Finset.univ fun p => Pipeline.cellsGhost (pinned (F := F)) EP p c)
      ∗ (bigSep Finset.univ fun c : Dev nD => bigSep Finset.univ fun p => (Pipeline.toksInit (pinned (F := F)) EP p c : sProp 𝕄))) := by
  unfold Gh
  rw [bigSep_sep']
  congr 1
  · exact bigSep_congr fun d _ => (bigSep_univ_of_subsingleton (0 : Fin 1) (Φ := fun p => Pipeline.cellsGhost (pinned (F := F)) EP p d)).symm
  · exact bigSep_congr fun d _ => (bigSep_univ_of_subsingleton (0 : Fin 1) (Φ := fun p => Pipeline.toksInit (pinned (F := F)) EP p d)).symm

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (PP m).x q thr) := by
  unfold u₀
  iintro Hu
  ihave H := (ownU_split _ _) $$ Hu
  icases H with ⟨HH, HP⟩
  imod (Pipeline.fund_ghost (pinned (F := F)) EP pinj) $$ HP with ⟨Hg, Ht⟩
  imodintro
  isplitl [HH]; · iexact HH
  isplitl [Hg Ht]
  · rw [Gh_eq]
    isplitl [Hg]; · iexact Hg
    iexact Ht
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem lift_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

/-- The TensorCore's kernel at its place in @main. -/
theorem region_step (κ : GSem nD τ sig → ℕ) (d : Dev nD) :
    iprop((K (F := F)).ctx EH (PP m) κ ∗ boundary (d.tc : Thread nD τ) ∗ StableHlo.held (d.tc : Thread nD τ) (Pipeline.ucRefs τ sig) (V1 m d) ∗ tcOwes d ∗ Gh d)
      ⊢ wp frame (wpE ((K (F := F)).defs (D (F := F))) 𝒱 (SparseCore.T d) none) Set.univ
          (Prog.lift (.customCall (SparseCore.inner (Pipeline.entry 0)) ()))
          fun _ => iprop(boundary (d.tc : Thread nD τ) ∗ StableHlo.held (d.tc : Thread nD τ) (Pipeline.ucRefs τ sig) (V2 m d) ∗ tcOwes d) := by
  rw [lift_eq]
  refine BIBase.Entails.trans ?_ ((K (F := F)).wp_liftProg (D (F := F)) 𝒱 _ Set.univ none _ _)
  have hS : Pipeline.arrRefs (τ := τ) spec0 ⊆ Pipeline.ucRefs τ sig := Pipeline.arrRefs_sub_ucRefs spec0 (fun w => launch0.win.arr_unscoped w)
  rw [StableHlo.held_sub_split (d.tc : Thread nD τ) hS (V1 m d), StableHlo.held_sub_split (d.tc : Thread nD τ) hS (V2 m d)]
  have hoff : (StableHlo.held (d.tc : Thread nD τ) (Pipeline.ucRefs τ sig \ Pipeline.arrRefs (τ := τ) spec0) (V1 m d) : sProp 𝕄)
      = StableHlo.held (d.tc : Thread nD τ) (Pipeline.ucRefs τ sig \ Pipeline.arrRefs (τ := τ) spec0) (V2 m d) :=
    StableHlo.held_congr _ fun b hb => (Pipeline.afterRegion_off (dats (V1 m) 0 d) (V1 m d) (Pipeline.ucRefs τ sig) b hb).symm
  rw [hoff]
  iintro ⟨#Hctx, Hb, ⟨Harr, Hoff⟩, HO, HG⟩
  ihave Hlv := (SparseCore.Cfg.ctx_levAts κ) $$ Hctx
  unfold Gh
  icases HG with ⟨Hg, Ht⟩
  iapply (Pipeline.RegionSeg.wp (pcfgs (F := F)) adms (dats (V1 m)) none pinj EP defs₀ 𝒱₀ (K (F := F)).L (K (F := F)).lev (region (V1 m)) d none (fun _ h => nomatch h) .ret _)
  isplitl [Hoff]
  · iintro ⟨Hb, Hpost⟩
    ihave Hp := (show (region (V1 m)).post d ⊢ iprop(StableHlo.held (d.tc : Thread nD τ) (Pipeline.arrRefs spec0) (V2 m d) ∗ tcOwes d) from Entails.of_eq rfl) $$ Hpost
    icases Hp with ⟨Harr, HO⟩
    rw [wp_ret]; imodintro
    isplitl [Hb]; · iexact Hb
    isplitr [HO]
    · isplitl [Harr]; · iexact Harr
      iexact Hoff
    iexact HO
  isplitl [Hb]; · iexact Hb
  isplitl [Harr HO]
  · iapply (show iprop(StableHlo.held (d.tc : Thread nD τ) (Pipeline.arrRefs spec0) (V1 m d) ∗ tcOwes d) ⊢ (region (V1 m)).pre d from Entails.of_eq rfl)
    isplitl [Harr]; · iexact Harr
    iexact HO
  isplitl [Hlv]; · iexact Hlv
  isplitl [Hg]; · iexact Hg
  iexact Ht

/-- The SparseCore call's arrays. -/
abbrev scRefs : Finset (DevRef τ sig) :=
  {Proc.devRef .tc main_v7, Proc.devRef .tc main_v8, Proc.devRef .tc main_v9, Proc.devRef .tc main_v10}

theorem scRefs_sub : scRefs ⊆ Pipeline.ucRefs τ sig := by
  intro b hb
  simp only [scRefs, Finset.mem_insert, Finset.mem_singleton] at hb
  rcases hb with rfl | rfl | rfl | rfl <;>
    exact Finset.mem_filter.mpr ⟨StableHlo.devRef_mem_tcRefs _, by decide⟩

theorem held_sc (d : Dev nD) (W : Valuation τ sig (Elt F)) :
    (StableHlo.held (d.tc : Thread nD τ) scRefs W : sProp 𝕄)
      = iprop((gLoc d ↦{fullShare} W (Proc.devRef .tc main_v7)) ∗ (nLoc d ↦{fullShare} W (Proc.devRef .tc main_v8))
        ∗ (uLoc d ↦{fullShare} W (Proc.devRef .tc main_v9)) ∗ (oLoc d ↦{fullShare} W (Proc.devRef .tc main_v10))) := by
  unfold StableHlo.held scRefs
  rw [SparseCore.bigSep_insert' (by decide), SparseCore.bigSep_insert' (by decide), SparseCore.bigSep_insert' (by decide), bigSep_singleton]

theorem held_before (d : Dev nD) : (StableHlo.held (d.tc : Thread nD τ) scRefs (V3 m d) : sProp 𝕄) = wholeRes (Gd m) (Xd m) (Ud m) d (od m d) := by
  rw [held_sc]; rfl

theorem V4_off (d : Dev nD) (b : DevRef τ sig) (h : b ≠ Proc.devRef .tc main_v10) : V4 m d b = V3 m d b :=
  Function.update_of_ne h _ _
theorem V4_on (d : Dev nD) : V4 m d (Proc.devRef .tc main_v10) = (outs (Gd m) (Xd m) (Ud m) d : Vec F S512 .f32) :=
  Function.update_self ..

theorem held_after (d : Dev nD) :
    (StableHlo.held (d.tc : Thread nD τ) scRefs (V4 m d) : sProp 𝕄) = wholeRes (Gd m) (Xd m) (Ud m) d (outs (Gd m) (Xd m) (Ud m) d) := by
  rw [held_sc, V4_on, V4_off m d _ (by decide), V4_off m d _ (by decide), V4_off m d _ (by decide)]; rfl

theorem held_rest (d : Dev nD) :
    (StableHlo.held (d.tc : Thread nD τ) (Pipeline.ucRefs τ sig \ scRefs) (V3 m d) : sProp 𝕄)
      = StableHlo.held (d.tc : Thread nD τ) (Pipeline.ucRefs τ sig \ scRefs) (V4 m d) :=
  StableHlo.held_congr _ fun b hb => (V4_off m d b fun e => (Finset.mem_sdiff.mp hb).2 (by subst e; decide)).symm

theorem held_open (d : Dev nD) : (StableHlo.held (d.tc : Thread nD τ) (Pipeline.ucRefs τ sig) (V3 m d) : sProp 𝕄)
    = iprop(wholeRes (Gd m) (Xd m) (Ud m) d (od m d) ∗ StableHlo.held (d.tc : Thread nD τ) (Pipeline.ucRefs τ sig \ scRefs) (V4 m d)) := by
  rw [StableHlo.held_sub_split (d.tc : Thread nD τ) scRefs_sub (V3 m d), held_before, held_rest]
theorem held_close (d : Dev nD) : (StableHlo.held (d.tc : Thread nD τ) (Pipeline.ucRefs τ sig) (V4 m d) : sProp 𝕄)
    = iprop(wholeRes (Gd m) (Xd m) (Ud m) d (outs (Gd m) (Xd m) (Ud m) d) ∗ StableHlo.held (d.tc : Thread nD τ) (Pipeline.ucRefs τ sig \ scRefs) (V4 m d)) := by
  rw [StableHlo.held_sub_split (d.tc : Thread nD τ) scRefs_sub (V4 m d), held_after]

abbrev FIN (d : Dev nD) : sProp 𝕄 := StableHlo.held (d.tc : Thread nD τ) (Pipeline.ucRefs τ sig) (V5 m d)

theorem tcSt_open (d : Dev nD) :
    ((K (F := F)).tcSt EH d 0 : sProp 𝕄) ⊢ iprop(tcOwes d ∗ (tcOwes d -∗ (K (F := F)).tcSt EH d 0)) := by
  unfold SparseCore.Cfg.tcSt tcOwes
  iintro ⟨⟨%W, %hW, HO⟩, Hrest⟩
  isplitl [HO]
  · iexists W
    isplitr
    · ipureintro
      intro p hp
      have h := hW p hp
      rcases hp2 : p.2 with _ | i
      · rfl
      · rw [hp2] at h
        have h0 : (K (F := F)).lev (SparseCore.T d, p.1) (some i) ≤ 0 := h
        have := (K (F := F)).lev_some_pos (SparseCore.T d, p.1) i
        omega
    iexact HO
  iintro ⟨%W, %hW, HO⟩
  isplitl [HO]
  · iexists W
    isplitr
    · ipureintro
      intro p hp
      rw [hW p hp]
      exact Nat.zero_le _
    iexact HO
  iexact Hrest

theorem hmain (κ : GSem nD τ sig → ℕ) (d : Dev nD) :
    iprop((K (F := F)).ctx EH (PP m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (Pipeline.ucRefs τ sig) (V0 m d)
      from Pipeline.unscopedBufs_held (Ix := HIx 1) (Name := ℕ) (U := UU) (Lvl := ℕ) d (V0 m d), main_eq]
  iintro ⟨#Hctx, Hst, ⟨Hb, Hheld, Hts, -⟩, HG⟩
  iapply (StableHlo.wp_seq 𝒱 none Set.univ d (Pipeline.ucRefs τ sig) _ ops0 (fun o ho => Pipeline.sub_ucRefs o (ops0_sub o ho)) ops0_fresh (V0 m d)) $$ [Hb Hheld]
  · isplitl [Hb]; · iexact Hb
    iexact Hheld
  iintro ⟨Hb, Hheld⟩
  ihave Hst := (tcSt_open d) $$ Hst
  icases Hst with ⟨HO, Hclose⟩
  rw [wp_bind]
  iapply (wp_wand_r frame _ Set.univ)
  isplitl [Hb Hheld HO HG]
  · iapply (region_step m κ d)
    isplitr; · iexact Hctx
    isplitl [Hb]; · iexact Hb
    isplitl [Hheld]; · iexact Hheld
    isplitl [HO]; · iexact HO
    iexact HG
  iintro %_ ⟨Hb, Hheld, HO⟩
  ihave Hst := Hclose $$ HO
  iapply (StableHlo.wp_seq 𝒱 none Set.univ d (Pipeline.ucRefs τ sig) _ ops1 (fun o ho => Pipeline.sub_ucRefs o (ops1_sub o ho)) ops1_fresh (V2 m d)) $$ [Hb Hheld]
  · isplitl [Hb]; · iexact Hb
    iexact Hheld
  iintro ⟨Hb, Hheld⟩
  ihave Hheld := (Entails.of_eq (held_open m d)) $$ Hheld
  icases Hheld with ⟨Hsc, Hrest⟩
  rw [wp_bind]
  iapply ((K (F := F)).wp_run (D (F := F)) 𝒱 (EH := EH) (P := PP m) κ d 0)
  isplitr; · iexact Hctx
  isplitl [Hst]; · iexact Hst
  isplitl [Hsc]
  · rw [st_eq]; iexact Hsc
  iintro ⟨Hst, Hdn⟩
  ihave Hsc := (Entails.of_eq (dn_eq (Gd m) (Xd m) (Ud m) (od m) d)) $$ Hdn
  iapply (StableHlo.wp_seq 𝒱 none Set.univ d (Pipeline.ucRefs τ sig) _ ops2 (fun o ho => Pipeline.sub_ucRefs o (ops2_sub o ho)) ops2_fresh (V4 m d)) $$ [Hb Hsc Hrest]
  · isplitl [Hb]; · iexact Hb
    iapply (Entails.of_eq (held_close m d).symm)
    isplitl [Hsc]; · iexact Hsc
    iexact Hrest
  iintro ⟨Hb, Hheld⟩
  rw [wp_pure]
  imodintro
  isplitl [Hst]; · iexact Hst
  isplitl [Hheld]; · iexact Hheld
  isplitl [Hb]; · iexact Hb
  iexact Hts

/-! ## Reading the final memory, and the run -/

theorem hfin (d : Dev nD) (s' : Phys nD τ sig (Elt F)) :
    iprop(FIN m d ∗ SI s') ⊢ (⌜∀ b ∈ Pipeline.ucRefs τ sig, s'.mem.mem (d, b) = V5 m d b⌝ : sProp 𝕄) := by
  suffices h : ∀ b ∈ Pipeline.ucRefs τ sig, iprop(FIN m d ∗ SI s') ⊢ (⌜s'.mem.mem (d, b) = V5 m d b⌝ : sProp 𝕄) by
    refine BIBase.Entails.trans (sProp.forall_intro fun b => ?_) Laws.pure_forall.2
    by_cases hb : b ∈ Pipeline.ucRefs τ sig
    · exact (h b hb).trans (BI.pure_mono fun e _ => e)
    · exact BI.pure_intro fun hb' => absurd hb' hb
  intro b hb
  unfold FIN StableHlo.held
  rw [SparseCore.bigSep_erase' hb]
  iintro ⟨⟨Hb, -⟩, HSI⟩
  ihave H := (SI_pointsTo_agree (st := s') (ℓ := (d, b)) (I := Finset.univ) (q := fullShare) (f := V5 m d b)) $$ [HSI Hb]
  · isplitl [HSI] <;> iassumption
  icases H with %h
  ipureintro; exact funext fun i => h i (Finset.mem_univ i)

/-- What a run ends in: every unscoped buffer of the TensorCore at its final contents, every semaphore at zero. -/
def QC : PUnit × MemSt nD τ sig (Elt F) → Prop := fun r =>
  (∀ d, ∀ b ∈ Pipeline.ucRefs τ sig, r.2.mem (d, b) = V5 m d b) ∧ r.2.sem = fun _ => 0

theorem run_main [∀ e, Nonempty (Elt F e)] (hX : ∀ d (j : S98304.Idx), BitVec.toNat (Xd m d j) < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Gd m) (Xd m) (Ud m) (od m) facts hX)
    (fun q _ => match q with | 0 => SparseCore.Cfg.VecSplit.of_plain (vecSplit (Gd m) (Xd m) (Ud m) (od m)))
    m ρ main (fun d => Gh d) (FIN m) (u₀ (F := F)) (sep_elim_left.trans (hu₀ m)) (hmain m ρ)
    (fun d s' => ∀ b ∈ Pipeline.ucRefs τ sig, s'.mem.mem (d, b) = V5 m d b) (hfin m) (QC m) (fun _ h hz => ⟨h, hz⟩)

end Cert.Proof

end
-- ==== Proof.Blocks.lean ====
/-
  The blocks of the TensorCore kernel's windows: which rows of the arrays grid point `t` reads and writes, and what its
  six results hold when its region ends, entry by entry.
-/
module

public import proofs.«01_k».proof.Proof.TcRegion
public import Idealize.ShloMosaic.Lib.Pipeline.Value
public import Idealize.ShloMosaic.Lib.Pointwise

@[expose] public section

set_option maxRecDepth 16384

noncomputable section

namespace Cert.Proof

open Cert.KernelIdeal Cert.KernelIdeal.Gen
open Idealize.ShloMosaic Idealize.ShloMosaic.Tactic

variable {F : FTy → Type} [FloatOps F]
variable (Vr : Dev nD → Valuation τ sig (Elt F))

/-! ## Rows of an array and rows of a block -/

/-- Row `r` of block `t`. -/
def rowOf (t : Fin cfg0.N) (r : Fin 128) : Fin 8192 := ⟨128 * t.val + r.val, by have := t.isLt; have hN : cfg0.N = 64 := N_0; omega⟩

/-- The block a row lies in, and the row's place in it. -/
def blkOf (i : Fin 8192) : Fin cfg0.N := ⟨i.val / 128, by have hN : cfg0.N = 64 := N_0; have := i.isLt; omega⟩
def inBlk (i : Fin 8192) : Fin 128 := ⟨i.val % 128, Nat.mod_lt _ (by decide)⟩

theorem rowOf_blkOf (i : Fin 8192) : rowOf (blkOf i) (inBlk i) = i := Fin.ext (by show 128 * (i.val / 128) + i.val % 128 = i.val; omega)
theorem blkOf_rowOf (t : Fin cfg0.N) (r : Fin 128) : blkOf (rowOf t r) = t :=
  Fin.ext (by show (128 * t.val + r.val) / 128 = t.val; have := r.isLt; omega)
theorem inBlk_rowOf (t : Fin cfg0.N) (r : Fin 128) : inBlk (rowOf t r) = r :=
  Fin.ext (by show (128 * t.val + r.val) % 128 = r.val; have := r.isLt; omega)

/-- Row `r` of block `t`, looked up by the block and the place of its row number. -/
theorem read_row {n : Nat} {α : Type} (f : Fin cfg0.N → (⟨2, ![128, n]⟩ : Shape).Idx → α) (t : Fin cfg0.N) (y : (⟨2, ![128, n]⟩ : Shape).Idx) :
    f (blkOf (rowOf t (y 0))) (ix2 (inBlk (rowOf t (y 0))) (y 1)) = f t y :=
  (congrArg₂ (fun b r => f b (ix2 r (y 1))) (blkOf_rowOf t (y 0)) (inBlk_rowOf t (y 0))).trans (congrArg (f t) (eq_ix2 y).symm)

/-! ## Where a block's entries lie in its array -/

theorem index_0 : ∀ t : Fin cfg0.N, win0_0.index t (0 : Fin 2) = t.val ∧ win0_0.index t (1 : Fin 2) = 0 :=
  (by decide +kernel : ∀ t : Fin grid0.N, _)
theorem emb_0 (t : Fin cfg0.N) (y : S128x8.Idx) : (((cfg0.win 0).blk t).view.emb y : S8192x8.Idx) = ix2 (rowOf t (y 0)) (y 1) := by
  obtain ⟨e0, e1⟩ := index_0 t
  funext a; apply Fin.ext
  match a with
  | ⟨0, _⟩ => show win0_0.index t (0 : Fin 2) * 128 + 1 * (y 0).val = 128 * t.val + (y 0).val; omega
  | ⟨1, _⟩ => show win0_0.index t (1 : Fin 2) * 8 + 1 * (y 1).val = (y 1).val; omega

theorem index_2 : ∀ t : Fin cfg0.N, win0_2.index t (0 : Fin 2) = t.val ∧ win0_2.index t (1 : Fin 2) = 0 :=
  (by decide +kernel : ∀ t : Fin grid0.N, _)
theorem emb_2 (t : Fin cfg0.N) (y : S128x128.Idx) : (((cfg0.win 2).blk t).view.emb y : S8192x128.Idx) = ix2 (rowOf t (y 0)) (y 1) := by
  obtain ⟨e0, e1⟩ := index_2 t
  funext a; apply Fin.ext
  match a with
  | ⟨0, _⟩ => show win0_2.index t (0 : Fin 2) * 128 + 1 * (y 0).val = 128 * t.val + (y 0).val; omega
  | ⟨1, _⟩ => show win0_2.index t (1 : Fin 2) * 128 + 1 * (y 1).val = (y 1).val; omega

theorem index_3 : ∀ t : Fin cfg0.N, win0_3.index t (0 : Fin 2) = t.val ∧ win0_3.index t (1 : Fin 2) = 0 :=
  (by decide +kernel : ∀ t : Fin grid0.N, _)
theorem emb_3 (t : Fin cfg0.N) (y : S128x3.Idx) : (((cfg0.win 3).blk t).view.emb y : S8192x3.Idx) = ix2 (rowOf t (y 0)) (y 1) := by
  obtain ⟨e0, e1⟩ := index_3 t
  funext a; apply Fin.ext
  match a with
  | ⟨0, _⟩ => show win0_3.index t (0 : Fin 2) * 128 + 1 * (y 0).val = 128 * t.val + (y 0).val; omega
  | ⟨1, _⟩ => show win0_3.index t (1 : Fin 2) * 3 + 1 * (y 1).val = (y 1).val; omega

theorem index_13 : ∀ t : Fin cfg0.N, win0_13.index t (0 : Fin 2) = t.val ∧ win0_13.index t (1 : Fin 2) = 0 :=
  (by decide +kernel : ∀ t : Fin grid0.N, _)
theorem emb_13 (t : Fin cfg0.N) (y : S128x10.Idx) : (((cfg0.win 13).blk t).view.emb y : S8192x10.Idx) = ix2 (rowOf t (y 0)) (y 1) := by
  obtain ⟨e0, e1⟩ := index_13 t
  funext a; apply Fin.ext
  match a with
  | ⟨0, _⟩ => show win0_13.index t (0 : Fin 2) * 128 + 1 * (y 0).val = 128 * t.val + (y 0).val; omega
  | ⟨1, _⟩ => show win0_13.index t (1 : Fin 2) * 10 + 1 * (y 1).val = (y 1).val; omega

theorem index_14 : ∀ t : Fin cfg0.N, win0_14.index t (0 : Fin 2) = t.val ∧ win0_14.index t (1 : Fin 2) = 0 :=
  (by decide +kernel : ∀ t : Fin grid0.N, _)
theorem emb_14 (t : Fin cfg0.N) (y : S128x10.Idx) : (((cfg0.win 14).blk t).view.emb y : S8192x10.Idx) = ix2 (rowOf t (y 0)) (y 1) := by
  obtain ⟨e0, e1⟩ := index_14 t
  funext a; apply Fin.ext
  match a with
  | ⟨0, _⟩ => show win0_14.index t (0 : Fin 2) * 128 + 1 * (y 0).val = 128 * t.val + (y 0).val; omega
  | ⟨1, _⟩ => show win0_14.index t (1 : Fin 2) * 10 + 1 * (y 1).val = (y 1).val; omega

theorem index_15 : ∀ t : Fin cfg0.N, win0_15.index t (0 : Fin 2) = t.val ∧ win0_15.index t (1 : Fin 2) = 0 :=
  (by decide +kernel : ∀ t : Fin grid0.N, _)
theorem emb_15 (t : Fin cfg0.N) (y : S128x12.Idx) : (((cfg0.win 15).blk t).view.emb y : S8192x12.Idx) = ix2 (rowOf t (y 0)) (y 1) := by
  obtain ⟨e0, e1⟩ := index_15 t
  funext a; apply Fin.ext
  match a with
  | ⟨0, _⟩ => show win0_15.index t (0 : Fin 2) * 128 + 1 * (y 0).val = 128 * t.val + (y 0).val; omega
  | ⟨1, _⟩ => show win0_15.index t (1 : Fin 2) * 12 + 1 * (y 1).val = (y 1).val; omega

theorem index_16 : ∀ t : Fin cfg0.N, win0_16.index t (0 : Fin 2) = t.val ∧ win0_16.index t (1 : Fin 2) = 0 :=
  (by decide +kernel : ∀ t : Fin grid0.N, _)
theorem emb_16 (t : Fin cfg0.N) (y : S128x12.Idx) : (((cfg0.win 16).blk t).view.emb y : S8192x12.Idx) = ix2 (rowOf t (y 0)) (y 1) := by
  obtain ⟨e0, e1⟩ := index_16 t
  funext a; apply Fin.ext
  match a with
  | ⟨0, _⟩ => show win0_16.index t (0 : Fin 2) * 128 + 1 * (y 0).val = 128 * t.val + (y 0).val; omega
  | ⟨1, _⟩ => show win0_16.index t (1 : Fin 2) * 12 + 1 * (y 1).val = (y 1).val; omega

theorem index_17 : ∀ t : Fin cfg0.N, win0_17.index t (0 : Fin 2) = t.val ∧ win0_17.index t (1 : Fin 2) = 0 :=
  (by decide +kernel : ∀ t : Fin grid0.N, _)
theorem emb_17 (t : Fin cfg0.N) (y : S128x1.Idx) : (((cfg0.win 17).blk t).view.emb y : S8192x1.Idx) = ix2 (rowOf t (y 0)) (y 1) := by
  obtain ⟨e0, e1⟩ := index_17 t
  funext a; apply Fin.ext
  match a with
  | ⟨0, _⟩ => show win0_17.index t (0 : Fin 2) * 128 + 1 * (y 0).val = 128 * t.val + (y 0).val; omega
  | ⟨1, _⟩ => show win0_17.index t (1 : Fin 2) * 1 + 1 * (y 1).val = (y 1).val; omega

theorem index_1 : ∀ t : Fin cfg0.N, win0_1.index t (0 : Fin 2) = 0 ∧ win0_1.index t (1 : Fin 2) = 0 :=
  (by decide +kernel : ∀ t : Fin grid0.N, _)
theorem emb_1 (t : Fin cfg0.N) (y : S8x8192.Idx) : (((cfg0.win 1).blk t).view.emb y : S8x8192.Idx) = y := by
  obtain ⟨e0, e1⟩ := index_1 t
  funext a; apply Fin.ext
  match a with
  | ⟨0, _⟩ => show win0_1.index t (0 : Fin 2) * 8 + 1 * (y 0).val = (y 0).val; omega
  | ⟨1, _⟩ => show win0_1.index t (1 : Fin 2) * 8192 + 1 * (y 1).val = (y 1).val; omega

theorem index_4 : ∀ t : Fin cfg0.N, win0_4.index t (0 : Fin 2) = 0 ∧ win0_4.index t (1 : Fin 2) = 0 :=
  (by decide +kernel : ∀ t : Fin grid0.N, _)
theorem emb_4 (t : Fin cfg0.N) (y : S128x10.Idx) : (((cfg0.win 4).blk t).view.emb y : S128x10.Idx) = y := by
  obtain ⟨e0, e1⟩ := index_4 t
  funext a; apply Fin.ext
  match a with
  | ⟨0, _⟩ => show win0_4.index t (0 : Fin 2) * 128 + 1 * (y 0).val = (y 0).val; omega
  | ⟨1, _⟩ => show win0_4.index t (1 : Fin 2) * 10 + 1 * (y 1).val = (y 1).val; omega

theorem index_5 : ∀ t : Fin cfg0.N, win0_5.index t (0 : Fin 2) = 0 ∧ win0_5.index t (1 : Fin 2) = 0 :=
  (by decide +kernel : ∀ t : Fin grid0.N, _)
theorem emb_5 (t : Fin cfg0.N) (y : S1x10.Idx) : (((cfg0.win 5).blk t).view.emb y : S1x10.Idx) = y := by
  obtain ⟨e0, e1⟩ := index_5 t
  funext a; apply Fin.ext
  match a with
  | ⟨0, _⟩ => show win0_5.index t (0 : Fin 2) * 1 + 1 * (y 0).val = (y 0).val; omega
  | ⟨1, _⟩ => show win0_5.index t (1 : Fin 2) * 10 + 1 * (y 1).val = (y 1).val; omega

theorem index_6 : ∀ t : Fin cfg0.N, win0_6.index t (0 : Fin 2) = 0 ∧ win0_6.index t (1 : Fin 2) = 0 :=
  (by decide +kernel : ∀ t : Fin grid0.N, _)
theorem emb_6 (t : Fin cfg0.N) (y : S128x10.Idx) : (((cfg0.win 6).blk t).view.emb y : S128x10.Idx) = y := by
  obtain ⟨e0, e1⟩ := index_6 t
  funext a; apply Fin.ext
  match a with
  | ⟨0, _⟩ => show win0_6.index t (0 : Fin 2) * 128 + 1 * (y 0).val = (y 0).val; omega
  | ⟨1, _⟩ => show win0_6.index t (1 : Fin 2) * 10 + 1 * (y 1).val = (y 1).val; omega

theorem index_7 : ∀ t : Fin cfg0.N, win0_7.index t (0 : Fin 2) = 0 ∧ win0_7.index t (1 : Fin 2) = 0 :=
  (by decide +kernel : ∀ t : Fin grid0.N, _)
theorem emb_7 (t : Fin cfg0.N) (y : S1x10.Idx) : (((cfg0.win 7).blk t).view.emb y : S1x10.Idx) = y := by
  obtain ⟨e0, e1⟩ := index_7 t
  funext a; apply Fin.ext
  match a with
  | ⟨0, _⟩ => show win0_7.index t (0 : Fin 2) * 1 + 1 * (y 0).val = (y 0).val; omega
  | ⟨1, _⟩ => show win0_7.index t (1 : Fin 2) * 10 + 1 * (y 1).val = (y 1).val; omega

theorem index_8 : ∀ t : Fin cfg0.N, win0_8.index t (0 : Fin 2) = 0 ∧ win0_8.index t (1 : Fin 2) = 0 :=
  (by decide +kernel : ∀ t : Fin grid0.N, _)
theorem emb_8 (t : Fin cfg0.N) (y : S128x128.Idx) : (((cfg0.win 8).blk t).view.emb y : S128x128.Idx) = y := by
  obtain ⟨e0, e1⟩ := index_8 t
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem index_9 : ∀ t : Fin cfg0.N, win0_9.index t (0 : Fin 2) = 0 ∧ win0_9.index t (1 : Fin 2) = 0 :=
  (by decide +kernel : ∀ t : Fin grid0.N, _)
theorem emb_9 (t : Fin cfg0.N) (y : S1x128.Idx) : (((cfg0.win 9).blk t).view.emb y : S1x128.Idx) = y := by
  obtain ⟨e0, e1⟩ := index_9 t
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem index_10 : ∀ t : Fin cfg0.N, win0_10.index t (0 : Fin 2) = 0 ∧ win0_10.index t (1 : Fin 2) = 0 :=
  (by decide +kernel : ∀ t : Fin grid0.N, _)
theorem emb_10 (t : Fin cfg0.N) (y : S128x128.Idx) : (((cfg0.win 10).blk t).view.emb y : S128x128.Idx) = y := by
  obtain ⟨e0, e1⟩ := index_10 t
  funext a; apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

theorem index_11 : ∀ t : Fin cfg0.N, win0_11.index t (0 : Fin 2) = 0 ∧ win0_11.index t (1 : Fin 2) = 0 :=
  (by decide +kernel : ∀ t : Fin grid0.N, _)
theorem emb_11 (t : Fin cfg0.N) (y : S1x128.Idx) : (((cfg0.win 11).blk t).view.emb y : S1x128.Idx) = y := by
  obtain ⟨e0, e1⟩ := index_11 t
  funext a; apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega

theorem index_12 : ∀ t : Fin cfg0.N, win0_12.index t (0 : Fin 2) = 0 ∧ win0_12.index t (1 : Fin 2) = 0 :=
  (by decide +kernel : ∀ t : Fin grid0.N, _)
theorem emb_12 (t : Fin cfg0.N) (y : S128x15.Idx) : (((cfg0.win 12).blk t).view.emb y : S128x15.Idx) = y := by
  obtain ⟨e0, e1⟩ := index_12 t
  funext a; apply Fin.ext
  match a with
  | ⟨0, _⟩ => show win0_12.index t (0 : Fin 2) * 128 + 1 * (y 0).val = (y 0).val; omega
  | ⟨1, _⟩ => show win0_12.index t (1 : Fin 2) * 15 + 1 * (y 1).val = (y 1).val; omega

theorem index_18 : ∀ t : Fin cfg0.N, win0_18.index t (0 : Fin 3) = t.val ∧ win0_18.index t (1 : Fin 3) = 0 ∧ win0_18.index t (2 : Fin 3) = 0 :=
  (by decide +kernel : ∀ t : Fin grid0.N, _)
theorem emb_18 (t : Fin cfg0.N) (y : S1x1x128.Idx) :
    (((cfg0.win 18).blk t).view.emb y : S64x1x128.Idx) = ix3 ⟨t.val, t.isLt.trans_eq N_0⟩ (y 1) (y 2) := by
  obtain ⟨e0, e1, e2⟩ := index_18 t
  funext a; apply Fin.ext
  match a with
  | ⟨0, _⟩ => show win0_18.index t (0 : Fin 3) * 1 + 1 * (y 0).val = t.val; have : (y 0).val < 1 := (y 0).isLt; omega
  | ⟨1, _⟩ => show win0_18.index t (1 : Fin 3) * 1 + 1 * (y 1).val = (y 1).val; omega
  | ⟨2, _⟩ => show win0_18.index t (2 : Fin 3) * 128 + 1 * (y 2).val = (y 2).val; omega

/-! ## An input's block, read -/

theorem iblk_0 (c : Dev nD) (t : Fin cfg0.N) :
    (iblk Vr c 0 t : Vec F S128x8 .f32) = fun y => (Vr c (Proc.devRef .tc main_v0) : Vec F S8192x8 .f32) (ix2 (rowOf t (y 0)) (y 1)) :=
  funext fun y => congrArg (Vr c (Proc.devRef .tc main_v0) : Vec F S8192x8 .f32) (emb_0 t y)

theorem iblk_2 (c : Dev nD) (t : Fin cfg0.N) :
    (iblk Vr c 2 t : Vec F S128x128 .f32) = fun y => (Vr c (Proc.devRef .tc main_arg1) : Vec F S8192x128 .f32) (ix2 (rowOf t (y 0)) (y 1)) :=
  funext fun y => congrArg (Vr c (Proc.devRef .tc main_arg1) : Vec F S8192x128 .f32) (emb_2 t y)

theorem iblk_3 (c : Dev nD) (t : Fin cfg0.N) :
    (iblk Vr c 3 t : Vec F S128x3 .f32) = fun y => (Vr c (Proc.devRef .tc main_arg2) : Vec F S8192x3 .f32) (ix2 (rowOf t (y 0)) (y 1)) :=
  funext fun y => congrArg (Vr c (Proc.devRef .tc main_arg2) : Vec F S8192x3 .f32) (emb_3 t y)

theorem iblk_1 (c : Dev nD) (t : Fin cfg0.N) : (iblk Vr c 1 t : Vec F S8x8192 .f32) = Vr c (Proc.devRef .tc main_v1) :=
  funext fun y => congrArg (Vr c (Proc.devRef .tc main_v1) : Vec F S8x8192 .f32) (emb_1 t y)

theorem iblk_4 (c : Dev nD) (t : Fin cfg0.N) : (iblk Vr c 4 t : Vec F S128x10 .f32) = Vr c (Proc.devRef .tc main_arg3) :=
  funext fun y => congrArg (Vr c (Proc.devRef .tc main_arg3) : Vec F S128x10 .f32) (emb_4 t y)

theorem iblk_5 (c : Dev nD) (t : Fin cfg0.N) : (iblk Vr c 5 t : Vec F S1x10 .f32) = Vr c (Proc.devRef .tc main_v2) :=
  funext fun y => congrArg (Vr c (Proc.devRef .tc main_v2) : Vec F S1x10 .f32) (emb_5 t y)

theorem iblk_6 (c : Dev nD) (t : Fin cfg0.N) : (iblk Vr c 6 t : Vec F S128x10 .f32) = Vr c (Proc.devRef .tc main_arg5) :=
  funext fun y => congrArg (Vr c (Proc.devRef .tc main_arg5) : Vec F S128x10 .f32) (emb_6 t y)

theorem iblk_7 (c : Dev nD) (t : Fin cfg0.N) : (iblk Vr c 7 t : Vec F S1x10 .f32) = Vr c (Proc.devRef .tc main_v3) :=
  funext fun y => congrArg (Vr c (Proc.devRef .tc main_v3) : Vec F S1x10 .f32) (emb_7 t y)

theorem iblk_8 (c : Dev nD) (t : Fin cfg0.N) : (iblk Vr c 8 t : Vec F S128x128 .f32) = Vr c (Proc.devRef .tc main_arg7) :=
  funext fun y => congrArg (Vr c (Proc.devRef .tc main_arg7) : Vec F S128x128 .f32) (emb_8 t y)

theorem iblk_9 (c : Dev nD) (t : Fin cfg0.N) : (iblk Vr c 9 t : Vec F S1x128 .f32) = Vr c (Proc.devRef .tc main_v4) :=
  funext fun y => congrArg (Vr c (Proc.devRef .tc main_v4) : Vec F S1x128 .f32) (emb_9 t y)

theorem iblk_10 (c : Dev nD) (t : Fin cfg0.N) : (iblk Vr c 10 t : Vec F S128x128 .f32) = Vr c (Proc.devRef .tc main_arg9) :=
  funext fun y => congrArg (Vr c (Proc.devRef .tc main_arg9) : Vec F S128x128 .f32) (emb_10 t y)

theorem iblk_11 (c : Dev nD) (t : Fin cfg0.N) : (iblk Vr c 11 t : Vec F S1x128 .f32) = Vr c (Proc.devRef .tc main_v5) :=
  funext fun y => congrArg (Vr c (Proc.devRef .tc main_v5) : Vec F S1x128 .f32) (emb_11 t y)

theorem iblk_12 (c : Dev nD) (t : Fin cfg0.N) : (iblk Vr c 12 t : Vec F S128x15 .f32) = Vr c (Proc.devRef .tc main_arg11) :=
  funext fun y => congrArg (Vr c (Proc.devRef .tc main_arg11) : Vec F S128x15 .f32) (emb_12 t y)

/-! ## The results -/

theorem afterW_15 (c : Dev nD) (t : Fin cfg0.N) : ((dats Vr 0 c).after 15 t : Vec F S128x12 .i32) = idxOf (iblk Vr c 0 t) (iblk Vr c 1 t) := by
  dsimp only [dats]

/-- The array window 13 writes ends, row by row, at what the row's block computed. -/
theorem fin_13 (c : Dev nD) : (Va Vr c (Proc.devRef .tc main_v6_0) : Vec F S8192x10 .f32)
    = fun j => ((dats Vr 0 c).after 13 (blkOf (j 0)) : Vec F S128x10 .f32) (ix2 (inBlk (j 0)) (j 1)) := by
  refine (arrAt_last Vr c 13).symm.trans ((dats Vr 0 c).arrAt_eq_of_cover 13
    (fun j : S8192x10.Idx => ((dats Vr 0 c).after 13 (blkOf (j 0)) : Vec F S128x10 .f32) (ix2 (inBlk (j 0)) (j 1))) (fun t _ => ?_) (fun i => ?_))
  · refine funext fun (y : S128x10.Idx) => ?_
    show ((dats Vr 0 c).after 13 t : Vec F S128x10 .f32) y
      = (fun j : S8192x10.Idx => ((dats Vr 0 c).after 13 (blkOf (j 0)) : Vec F S128x10 .f32) (ix2 (inBlk (j 0)) (j 1))) (((cfg0.win 13).blk t).view.emb y)
    refine Eq.trans ?_ (congrArg (fun j : S8192x10.Idx => ((dats Vr 0 c).after 13 (blkOf (j 0)) : Vec F S128x10 .f32) (ix2 (inBlk (j 0)) (j 1))) (emb_13 t y).symm)
    exact (read_row (fun t => ((dats Vr 0 c).after 13 t : Vec F S128x10 .f32)) t y).symm
  · refine ⟨blkOf (i (0 : Fin 2)), flush0_13 _, ?_⟩
    have h := ((cfg0.win 13).blk (blkOf (i (0 : Fin 2)))).view.emb_mem_set (ix2 (inBlk (i (0 : Fin 2))) (i (1 : Fin 2)) : S128x10.Idx)
    rw [show (((cfg0.win 13).blk (blkOf (i (0 : Fin 2)))).view.emb (ix2 (inBlk (i (0 : Fin 2))) (i (1 : Fin 2)) : S128x10.Idx)) = i from
      (emb_13 _ _).trans ((congrArg (fun r => (ix2 r (i (1 : Fin 2)) : S8192x10.Idx)) (rowOf_blkOf (i (0 : Fin 2)))).trans (eq_ix2 _).symm)] at h
    exact h

/-- The array window 14 writes ends, row by row, at what the row's block computed. -/
theorem fin_14 (c : Dev nD) : (Va Vr c (Proc.devRef .tc main_v6_1) : Vec F S8192x10 .f32)
    = fun j => ((dats Vr 0 c).after 14 (blkOf (j 0)) : Vec F S128x10 .f32) (ix2 (inBlk (j 0)) (j 1)) := by
  refine (arrAt_last Vr c 14).symm.trans ((dats Vr 0 c).arrAt_eq_of_cover 14
    (fun j : S8192x10.Idx => ((dats Vr 0 c).after 14 (blkOf (j 0)) : Vec F S128x10 .f32) (ix2 (inBlk (j 0)) (j 1))) (fun t _ => ?_) (fun i => ?_))
  · refine funext fun (y : S128x10.Idx) => ?_
    show ((dats Vr 0 c).after 14 t : Vec F S128x10 .f32) y
      = (fun j : S8192x10.Idx => ((dats Vr 0 c).after 14 (blkOf (j 0)) : Vec F S128x10 .f32) (ix2 (inBlk (j 0)) (j 1))) (((cfg0.win 14).blk t).view.emb y)
    refine Eq.trans ?_ (congrArg (fun j : S8192x10.Idx => ((dats Vr 0 c).after 14 (blkOf (j 0)) : Vec F S128x10 .f32) (ix2 (inBlk (j 0)) (j 1))) (emb_14 t y).symm)
    exact (read_row (fun t => ((dats Vr 0 c).after 14 t : Vec F S128x10 .f32)) t y).symm
  · refine ⟨blkOf (i (0 : Fin 2)), flush0_14 _, ?_⟩
    have h := ((cfg0.win 14).blk (blkOf (i (0 : Fin 2)))).view.emb_mem_set (ix2 (inBlk (i (0 : Fin 2))) (i (1 : Fin 2)) : S128x10.Idx)
    rw [show (((cfg0.win 14).blk (blkOf (i (0 : Fin 2)))).view.emb (ix2 (inBlk (i (0 : Fin 2))) (i (1 : Fin 2)) : S128x10.Idx)) = i from
      (emb_14 _ _).trans ((congrArg (fun r => (ix2 r (i (1 : Fin 2)) : S8192x10.Idx)) (rowOf_blkOf (i (0 : Fin 2)))).trans (eq_ix2 _).symm)] at h
    exact h

/-- The array window 15 writes ends, row by row, at what the row's block computed. -/
theorem fin_15 (c : Dev nD) : (Va Vr c (Proc.devRef .tc main_v6_2) : Vec F S8192x12 .i32)
    = fun j => ((dats Vr 0 c).after 15 (blkOf (j 0)) : Vec F S128x12 .i32) (ix2 (inBlk (j 0)) (j 1)) := by
  refine (arrAt_last Vr c 15).symm.trans ((dats Vr 0 c).arrAt_eq_of_cover 15
    (fun j : S8192x12.Idx => ((dats Vr 0 c).after 15 (blkOf (j 0)) : Vec F S128x12 .i32) (ix2 (inBlk (j 0)) (j 1))) (fun t _ => ?_) (fun i => ?_))
  · refine funext fun (y : S128x12.Idx) => ?_
    show ((dats Vr 0 c).after 15 t : Vec F S128x12 .i32) y
      = (fun j : S8192x12.Idx => ((dats Vr 0 c).after 15 (blkOf (j 0)) : Vec F S128x12 .i32) (ix2 (inBlk (j 0)) (j 1))) (((cfg0.win 15).blk t).view.emb y)
    refine Eq.trans ?_ (congrArg (fun j : S8192x12.Idx => ((dats Vr 0 c).after 15 (blkOf (j 0)) : Vec F S128x12 .i32) (ix2 (inBlk (j 0)) (j 1))) (emb_15 t y).symm)
    exact (read_row (fun t => ((dats Vr 0 c).after 15 t : Vec F S128x12 .i32)) t y).symm
  · refine ⟨blkOf (i (0 : Fin 2)), flush0_15 _, ?_⟩
    have h := ((cfg0.win 15).blk (blkOf (i (0 : Fin 2)))).view.emb_mem_set (ix2 (inBlk (i (0 : Fin 2))) (i (1 : Fin 2)) : S128x12.Idx)
    rw [show (((cfg0.win 15).blk (blkOf (i (0 : Fin 2)))).view.emb (ix2 (inBlk (i (0 : Fin 2))) (i (1 : Fin 2)) : S128x12.Idx)) = i from
      (emb_15 _ _).trans ((congrArg (fun r => (ix2 r (i (1 : Fin 2)) : S8192x12.Idx)) (rowOf_blkOf (i (0 : Fin 2)))).trans (eq_ix2 _).symm)] at h
    exact h

/-- The array window 16 writes ends, row by row, at what the row's block computed. -/
theorem fin_16 (c : Dev nD) : (Va Vr c (Proc.devRef .tc main_v6_3) : Vec F S8192x12 .f32)
    = fun j => ((dats Vr 0 c).after 16 (blkOf (j 0)) : Vec F S128x12 .f32) (ix2 (inBlk (j 0)) (j 1)) := by
  refine (arrAt_last Vr c 16).symm.trans ((dats Vr 0 c).arrAt_eq_of_cover 16
    (fun j : S8192x12.Idx => ((dats Vr 0 c).after 16 (blkOf (j 0)) : Vec F S128x12 .f32) (ix2 (inBlk (j 0)) (j 1))) (fun t _ => ?_) (fun i => ?_))
  · refine funext fun (y : S128x12.Idx) => ?_
    show ((dats Vr 0 c).after 16 t : Vec F S128x12 .f32) y
      = (fun j : S8192x12.Idx => ((dats Vr 0 c).after 16 (blkOf (j 0)) : Vec F S128x12 .f32) (ix2 (inBlk (j 0)) (j 1))) (((cfg0.win 16).blk t).view.emb y)
    refine Eq.trans ?_ (congrArg (fun j : S8192x12.Idx => ((dats Vr 0 c).after 16 (blkOf (j 0)) : Vec F S128x12 .f32) (ix2 (inBlk (j 0)) (j 1))) (emb_16 t y).symm)
    exact (read_row (fun t => ((dats Vr 0 c).after 16 t : Vec F S128x12 .f32)) t y).symm
  · refine ⟨blkOf (i (0 : Fin 2)), flush0_16 _, ?_⟩
    have h := ((cfg0.win 16).blk (blkOf (i (0 : Fin 2)))).view.emb_mem_set (ix2 (inBlk (i (0 : Fin 2))) (i (1 : Fin 2)) : S128x12.Idx)
    rw [show (((cfg0.win 16).blk (blkOf (i (0 : Fin 2)))).view.emb (ix2 (inBlk (i (0 : Fin 2))) (i (1 : Fin 2)) : S128x12.Idx)) = i from
      (emb_16 _ _).trans ((congrArg (fun r => (ix2 r (i (1 : Fin 2)) : S8192x12.Idx)) (rowOf_blkOf (i (0 : Fin 2)))).trans (eq_ix2 _).symm)] at h
    exact h

/-- The array window 17 writes ends, row by row, at what the row's block computed. -/
theorem fin_17 (c : Dev nD) : (Va Vr c (Proc.devRef .tc main_v6_4) : Vec F S8192x1 .f32)
    = fun j => ((dats Vr 0 c).after 17 (blkOf (j 0)) : Vec F S128x1 .f32) (ix2 (inBlk (j 0)) (j 1)) := by
  refine (arrAt_last Vr c 17).symm.trans ((dats Vr 0 c).arrAt_eq_of_cover 17
    (fun j : S8192x1.Idx => ((dats Vr 0 c).after 17 (blkOf (j 0)) : Vec F S128x1 .f32) (ix2 (inBlk (j 0)) (j 1))) (fun t _ => ?_) (fun i => ?_))
  · refine funext fun (y : S128x1.Idx) => ?_
    show ((dats Vr 0 c).after 17 t : Vec F S128x1 .f32) y
      = (fun j : S8192x1.Idx => ((dats Vr 0 c).after 17 (blkOf (j 0)) : Vec F S128x1 .f32) (ix2 (inBlk (j 0)) (j 1))) (((cfg0.win 17).blk t).view.emb y)
    refine Eq.trans ?_ (congrArg (fun j : S8192x1.Idx => ((dats Vr 0 c).after 17 (blkOf (j 0)) : Vec F S128x1 .f32) (ix2 (inBlk (j 0)) (j 1))) (emb_17 t y).symm)
    exact (read_row (fun t => ((dats Vr 0 c).after 17 t : Vec F S128x1 .f32)) t y).symm
  · refine ⟨blkOf (i (0 : Fin 2)), flush0_17 _, ?_⟩
    have h := ((cfg0.win 17).blk (blkOf (i (0 : Fin 2)))).view.emb_mem_set (ix2 (inBlk (i (0 : Fin 2))) (i (1 : Fin 2)) : S128x1.Idx)
    rw [show (((cfg0.win 17).blk (blkOf (i (0 : Fin 2)))).view.emb (ix2 (inBlk (i (0 : Fin 2))) (i (1 : Fin 2)) : S128x1.Idx)) = i from
      (emb_17 _ _).trans ((congrArg (fun r => (ix2 r (i (1 : Fin 2)) : S8192x1.Idx)) (rowOf_blkOf (i (0 : Fin 2)))).trans (eq_ix2 _).symm)] at h
    exact h

/-- The array of the blocks' partial sums: entry `(t, 0, l)` at what block `t` computed. -/
theorem fin_18 (c : Dev nD) : (Va Vr c (Proc.devRef .tc main_v6_5) : Vec F S64x1x128 .f32)
    = fun j => ((dats Vr 0 c).after 18 ⟨(j 0).val, (j 0).isLt.trans_eq N_0.symm⟩ : Vec F S1x1x128 .f32) (ix3 0 (j 1) (j 2)) := by
  refine (arrAt_last Vr c 18).symm.trans ((dats Vr 0 c).arrAt_eq_of_cover 18
    (fun j : S64x1x128.Idx => ((dats Vr 0 c).after 18 ⟨(j 0).val, (j 0).isLt.trans_eq N_0.symm⟩ : Vec F S1x1x128 .f32) (ix3 0 (j 1) (j 2))) (fun t _ => ?_) (fun i => ?_))
  · refine funext fun (y : S1x1x128.Idx) => ?_
    refine Eq.trans ?_ (congrArg (fun j : S64x1x128.Idx => ((dats Vr 0 c).after 18 ⟨(j 0).val, (j 0).isLt.trans_eq N_0.symm⟩ : Vec F S1x1x128 .f32) (ix3 0 (j 1) (j 2))) (emb_18 t y).symm)
    show ((dats Vr 0 c).after 18 t : Vec F S1x1x128 .f32) y = ((dats Vr 0 c).after 18 t : Vec F S1x1x128 .f32) (ix3 0 (y 1) (y 2))
    refine congrArg _ (funext fun a => ?_)
    match a with
    | ⟨0, _⟩ => exact Fin.ext (by have : (y 0).val < 1 := (y 0).isLt; show (y 0).val = 0; omega)
    | ⟨1, _⟩ => rfl
    | ⟨2, _⟩ => rfl
  · refine ⟨⟨(i (0 : Fin 3)).val, (i (0 : Fin 3)).isLt.trans_eq N_0.symm⟩, flush0_18 _, ?_⟩
    have h := ((cfg0.win 18).blk ⟨(i (0 : Fin 3)).val, (i (0 : Fin 3)).isLt.trans_eq N_0.symm⟩).view.emb_mem_set (ix3 0 (i (1 : Fin 3)) (i (2 : Fin 3)) : S1x1x128.Idx)
    rw [show (((cfg0.win 18).blk ⟨(i (0 : Fin 3)).val, (i (0 : Fin 3)).isLt.trans_eq N_0.symm⟩).view.emb (ix3 0 (i (1 : Fin 3)) (i (2 : Fin 3)) : S1x1x128.Idx)) = i from
      (emb_18 _ _).trans (funext fun a => by match a with | ⟨0, _⟩ => rfl | ⟨1, _⟩ => rfl | ⟨2, _⟩ => rfl)] at h
    exact h

end Cert.Proof

end
-- ==== Proof.Frames.lean ====
/-
  What the run keeps and what it needs: every neighbour index the TensorCore's kernel writes lies below 8192, so that the
  SparseCore's gathers stay inside their table; and the arguments end as they began. The frames of the two programs.
-/
module

public import proofs.«01_k».proof.Defs
public import proofs.«01_k».proof.Proof.Gen.Kernel
public import proofs.«01_k».proof.Proof.Main
public import proofs.«01_k».proof.Proof.Blocks
public import Idealize.ShloMosaic.Lib.Pointwise

@[expose] public section

set_option maxRecDepth 16384

noncomputable section

namespace Cert.Proof

open Cert.KernelIdeal Cert.KernelIdeal.Gen
open Idealize.ShloMosaic Idealize.ShloMosaic.Tactic
open Idealize.SL.Sem

variable {F : FTy → Type} [FloatOps F]

/-! ## The neighbours' indices lie below 8192 -/

/-- The index a round writes: 8191 less the low 13 bits of the greatest key. -/
theorem pay5_apply (k : Fin k0_t1_loop.trips) (a : IVec S128x1 32) (b : IVec S128x12 32) (X : Vec F S128x8192 .i32) (r : Fin 128) (c : Fin 12) :
    k0_pay5 (F := F) k a b X (ix2 r c) = if c.val = k.val then 8191#32 - (k0_pay4 (F := F) a X (ix2 r (0 : Fin 1)) &&& 8191#32) else b (ix2 r c) := by
  have hk : k.val < 12 := lt_of_lt_of_le k.isLt (by decide)
  have hc := c.isLt
  have hb := broadcastTo_apply (subi (broadcast S128x1 8191#32) (andi (k0_pay4 (F := F) a X) (broadcast S128x1 8191#32))) broadcasts_S128x1_S128x12
    (ix2 r c) (ix2 r (0 : Fin 1)) (by intro a; match a with | ⟨0, _⟩ => rfl | ⟨1, _⟩ => rfl)
  show Scalar.select (IntOp.cmpi .eq (iota .tc S128x12 32 [1] iota_S128x12_d1_w32 (ix2 r c)) (Scf.iv 0#32 1#32 k.val))
    (broadcastTo S128x12 (shapeCast S128x1 (subi (broadcast S128x1 8191#32) (andi (k0_pay4 (F := F) a X) (broadcast S128x1 8191#32))) shapeCasts_S128x1_S128x1) broadcasts_S128x1_S128x12 (ix2 r c))
    (b (ix2 r c)) = _
  rw [shapeCast_self, hb, iota_single_apply]
  have e : IntOp.cmpi .eq (BitVec.ofNat 32 ((ix2 r c : S128x12.Idx) 1).val) (Scf.iv 0#32 1#32 k.val) = 1 ↔ c.val = k.val := by
    have h1 : Scf.iv 0#32 1#32 k.val = BitVec.ofNat 32 k.val := by unfold Scf.iv; simp
    show BitVec.ofBool (BitVec.ofNat 32 c.val == Scf.iv 0#32 1#32 k.val) = 1 ↔ _
    rw [h1]
    constructor
    · intro h
      have h2 : (BitVec.ofNat 32 c.val == BitVec.ofNat 32 k.val) = true := by
        by_contra hne
        rw [Bool.not_eq_true] at hne; rw [hne] at h; exact absurd h (by decide)
      have h3 := congrArg BitVec.toNat (eq_of_beq h2)
      rw [BitVec.toNat_ofNat, BitVec.toNat_ofNat] at h3
      omega
    · intro h; rw [h]; simp
  unfold Scalar.select
  by_cases h : c.val = k.val
  · rw [if_pos (e.mpr h), if_pos h]; rfl
  · rw [if_neg (fun h' => h (e.mp h')), if_neg h]

theorem rounds_lt (X : Vec F S128x8192 .i32) : ∀ (n : ℕ) (r : Fin 128) (c : Fin 12), BitVec.toNat ((roundsAt (F := F) X n).2 (ix2 r c)) < 8192
  | 0, _, _ => by show BitVec.toNat (0#32) < 8192; decide
  | n + 1, r, c => by
    rw [roundsAt]
    by_cases h : n < k0_t1_loop.trips
    · rw [dif_pos h]
      show BitVec.toNat (k0_pay5 (F := F) ⟨n, h⟩ (roundsAt (F := F) X n).1 (roundsAt (F := F) X n).2 X (ix2 r c)) < 8192
      rw [pay5_apply]
      by_cases hc : c.val = n
      · rw [if_pos hc]
        generalize k0_pay4 (F := F) (roundsAt (F := F) X n).1 X (ix2 r (0 : Fin 1)) = w
        have h1 : BitVec.toNat (w &&& 8191#32) ≤ 8191 := by
          rw [BitVec.toNat_and]; exact Nat.and_le_right
        rw [BitVec.toNat_sub]
        have h2 : BitVec.toNat (8191#32) = 8191 := rfl
        rw [h2]; omega
      · rw [if_neg hc]; exact rounds_lt X n r c
    · rw [dif_neg h]; exact rounds_lt X n r c

theorem idxOf_lt (x0 : Vec F S128x8 .f32) (x1 : Vec F S8x8192 .f32) (r : Fin 128) (c : Fin 12) : BitVec.toNat (idxOf (F := F) x0 x1 (ix2 r c)) < 8192 :=
  rounds_lt _ _ r c

/-! ## What the host operations and the TensorCore's kernel keep -/

theorem keeps0 (V : Valuation τ sig (Elt F)) (r : Ref sig .tc)
    (h : r ≠ main_c ∧ r ≠ main_call0_v0 ∧ r ≠ main_v0 ∧ r ≠ main_v1 ∧ r ≠ main_v2 ∧ r ≠ main_v3 ∧ r ≠ main_v4 ∧ r ≠ main_v5) :
    StableHlo.after ops0 V (Proc.devRef .tc r) = V (Proc.devRef .tc r) := by
  obtain ⟨h1, h2, h3, h4, h5, h6, h7, h8⟩ := h
  exact StableHlo.after_of_forall_not_mem (b := Proc.devRef .tc r) _ _ (List.forall_iff_forall_mem.mp
    ⟨fun h => StableHlo.devRef_ne_of_ne h1 (Finset.mem_singleton.mp h),
      fun h => StableHlo.devRef_ne_of_ne h2 (Finset.mem_singleton.mp h),
      fun h => StableHlo.devRef_ne_of_ne h3 (Finset.mem_singleton.mp h),
      fun h => StableHlo.devRef_ne_of_ne h4 (Finset.mem_singleton.mp h),
      fun h => StableHlo.devRef_ne_of_ne h5 (Finset.mem_singleton.mp h),
      fun h => StableHlo.devRef_ne_of_ne h6 (Finset.mem_singleton.mp h),
      fun h => StableHlo.devRef_ne_of_ne h7 (Finset.mem_singleton.mp h),
      fun h => StableHlo.devRef_ne_of_ne h8 (Finset.mem_singleton.mp h)⟩)

theorem keeps1 (V : Valuation τ sig (Elt F)) (r : Ref sig .tc) (h : r ≠ main_v7 ∧ r ≠ main_v8 ∧ r ≠ main_v9) :
    StableHlo.after ops1 V (Proc.devRef .tc r) = V (Proc.devRef .tc r) := by
  obtain ⟨h1, h2, h3⟩ := h
  exact StableHlo.after_of_forall_not_mem (b := Proc.devRef .tc r) _ _ (List.forall_iff_forall_mem.mp
    ⟨fun h => StableHlo.devRef_ne_of_ne h1 (Finset.mem_singleton.mp h),
      fun h => StableHlo.devRef_ne_of_ne h2 (Finset.mem_singleton.mp h),
      fun h => StableHlo.devRef_ne_of_ne h3 (Finset.mem_singleton.mp h)⟩)

theorem keeps2 (V : Valuation τ sig (Elt F)) (r : Ref sig .tc)
    (h : (r ≠ main_cst ∧ r ≠ main_v11 ∧ r ≠ main_v12 ∧ r ≠ main_v13 ∧ r ≠ main_cst_0 ∧ r ≠ main_v14) ∧
      (r ≠ main_cst_1 ∧ r ≠ main_v15 ∧ r ≠ main_cst_2 ∧ r ≠ main_v16 ∧ r ≠ main_cst_3 ∧ r ≠ main_v17 ∧ r ≠ main_v18)) :
    StableHlo.after ops2 V (Proc.devRef .tc r) = V (Proc.devRef .tc r) := by
  obtain ⟨⟨h1, h2, h3, h4, h5, h6⟩, h7, h8, h9, h10, h11, h12, h13⟩ := h
  exact StableHlo.after_of_forall_not_mem (b := Proc.devRef .tc r) _ _ (List.forall_iff_forall_mem.mp
    ⟨fun h => StableHlo.devRef_ne_of_ne h1 (Finset.mem_singleton.mp h),
      fun h => StableHlo.devRef_ne_of_ne h2 (Finset.mem_singleton.mp h),
      fun h => StableHlo.devRef_ne_of_ne h3 (Finset.mem_singleton.mp h),
      fun h => StableHlo.devRef_ne_of_ne h4 (Finset.mem_singleton.mp h),
      fun h => StableHlo.devRef_ne_of_ne h5 (Finset.mem_singleton.mp h),
      fun h => StableHlo.devRef_ne_of_ne h6 (Finset.mem_singleton.mp h),
      fun h => StableHlo.devRef_ne_of_ne h7 (Finset.mem_singleton.mp h),
      fun h => StableHlo.devRef_ne_of_ne h8 (Finset.mem_singleton.mp h),
      fun h => StableHlo.devRef_ne_of_ne h9 (Finset.mem_singleton.mp h),
      fun h => StableHlo.devRef_ne_of_ne h10 (Finset.mem_singleton.mp h),
      fun h => StableHlo.devRef_ne_of_ne h11 (Finset.mem_singleton.mp h),
      fun h => StableHlo.devRef_ne_of_ne h12 (Finset.mem_singleton.mp h),
      fun h => StableHlo.devRef_ne_of_ne h13 (Finset.mem_singleton.mp h)⟩)

theorem keepsR (Vr : Dev nD → Valuation τ sig (Elt F)) (c : Dev nD) (r : Ref sig .tc)
    (h : ∀ w : Fin cfg0.W, Pipeline.arrRef spec0 w = r → (cfg0.win w).isOut = false) :
    Va Vr c (Proc.devRef .tc r) = Vr c (Proc.devRef .tc r) :=
  Pipeline.afterRegion_keeps (dats Vr 0 c) (Vr c) launch0.win.arr_inj (A_eq Vr c) r h

variable (m : (ℓ : Loc nD τ sig) → Buf (Elt F) ℓ) (ρ : Dev nD → PrngReg)

theorem V1_arg0 (d : Dev nD) : V1 m d (Proc.devRef .tc main_arg0) = m (d, Proc.devRef .tc main_arg0) :=
  keeps0 _ main_arg0 (by decide)
theorem V5_arg0 (d : Dev nD) : V5 m d (Proc.devRef .tc main_arg0) = m (d, Proc.devRef .tc main_arg0) :=
  (keeps2 _ main_arg0 (by decide)).trans ((V4_off m d _ (StableHlo.devRef_ne_of_ne (by decide))).trans ((keeps1 _ main_arg0 (by decide)).trans
    ((keepsR (V1 m) d main_arg0 (by decide)).trans (V1_arg0 m d))))

theorem V1_arg1 (d : Dev nD) : V1 m d (Proc.devRef .tc main_arg1) = m (d, Proc.devRef .tc main_arg1) :=
  keeps0 _ main_arg1 (by decide)
theorem V5_arg1 (d : Dev nD) : V5 m d (Proc.devRef .tc main_arg1) = m (d, Proc.devRef .tc main_arg1) :=
  (keeps2 _ main_arg1 (by decide)).trans ((V4_off m d _ (StableHlo.devRef_ne_of_ne (by decide))).trans ((keeps1 _ main_arg1 (by decide)).trans
    ((keepsR (V1 m) d main_arg1 (by decide)).trans (V1_arg1 m d))))

theorem V1_arg2 (d : Dev nD) : V1 m d (Proc.devRef .tc main_arg2) = m (d, Proc.devRef .tc main_arg2) :=
  keeps0 _ main_arg2 (by decide)
theorem V5_arg2 (d : Dev nD) : V5 m d (Proc.devRef .tc main_arg2) = m (d, Proc.devRef .tc main_arg2) :=
  (keeps2 _ main_arg2 (by decide)).trans ((V4_off m d _ (StableHlo.devRef_ne_of_ne (by decide))).trans ((keeps1 _ main_arg2 (by decide)).trans
    ((keepsR (V1 m) d main_arg2 (by decide)).trans (V1_arg2 m d))))

theorem V1_arg3 (d : Dev nD) : V1 m d (Proc.devRef .tc main_arg3) = m (d, Proc.devRef .tc main_arg3) :=
  keeps0 _ main_arg3 (by decide)
theorem V5_arg3 (d : Dev nD) : V5 m d (Proc.devRef .tc main_arg3) = m (d, Proc.devRef .tc main_arg3) :=
  (keeps2 _ main_arg3 (by decide)).trans ((V4_off m d _ (StableHlo.devRef_ne_of_ne (by decide))).trans ((keeps1 _ main_arg3 (by decide)).trans
    ((keepsR (V1 m) d main_arg3 (by decide)).trans (V1_arg3 m d))))

theorem V1_arg4 (d : Dev nD) : V1 m d (Proc.devRef .tc main_arg4) = m (d, Proc.devRef .tc main_arg4) :=
  keeps0 _ main_arg4 (by decide)
theorem V5_arg4 (d : Dev nD) : V5 m d (Proc.devRef .tc main_arg4) = m (d, Proc.devRef .tc main_arg4) :=
  (keeps2 _ main_arg4 (by decide)).trans ((V4_off m d _ (StableHlo.devRef_ne_of_ne (by decide))).trans ((keeps1 _ main_arg4 (by decide)).trans
    ((keepsR (V1 m) d main_arg4 (by decide)).trans (V1_arg4 m d))))

theorem V1_arg5 (d : Dev nD) : V1 m d (Proc.devRef .tc main_arg5) = m (d, Proc.devRef .tc main_arg5) :=
  keeps0 _ main_arg5 (by decide)
theorem V5_arg5 (d : Dev nD) : V5 m d (Proc.devRef .tc main_arg5) = m (d, Proc.devRef .tc main_arg5) :=
  (keeps2 _ main_arg5 (by decide)).trans ((V4_off m d _ (StableHlo.devRef_ne_of_ne (by decide))).trans ((keeps1 _ main_arg5 (by decide)).trans
    ((keepsR (V1 m) d main_arg5 (by decide)).trans (V1_arg5 m d))))

theorem V1_arg6 (d : Dev nD) : V1 m d (Proc.devRef .tc main_arg6) = m (d, Proc.devRef .tc main_arg6) :=
  keeps0 _ main_arg6 (by decide)
theorem V5_arg6 (d : Dev nD) : V5 m d (Proc.devRef .tc main_arg6) = m (d, Proc.devRef .tc main_arg6) :=
  (keeps2 _ main_arg6 (by decide)).trans ((V4_off m d _ (StableHlo.devRef_ne_of_ne (by decide))).trans ((keeps1 _ main_arg6 (by decide)).trans
    ((keepsR (V1 m) d main_arg6 (by decide)).trans (V1_arg6 m d))))

theorem V1_arg7 (d : Dev nD) : V1 m d (Proc.devRef .tc main_arg7) = m (d, Proc.devRef .tc main_arg7) :=
  keeps0 _ main_arg7 (by decide)
theorem V5_arg7 (d : Dev nD) : V5 m d (Proc.devRef .tc main_arg7) = m (d, Proc.devRef .tc main_arg7) :=
  (keeps2 _ main_arg7 (by decide)).trans ((V4_off m d _ (StableHlo.devRef_ne_of_ne (by decide))).trans ((keeps1 _ main_arg7 (by decide)).trans
    ((keepsR (V1 m) d main_arg7 (by decide)).trans (V1_arg7 m d))))

theorem V1_arg8 (d : Dev nD) : V1 m d (Proc.devRef .tc main_arg8) = m (d, Proc.devRef .tc main_arg8) :=
  keeps0 _ main_arg8 (by decide)
theorem V5_arg8 (d : Dev nD) : V5 m d (Proc.devRef .tc main_arg8) = m (d, Proc.devRef .tc main_arg8) :=
  (keeps2 _ main_arg8 (by decide)).trans ((V4_off m d _ (StableHlo.devRef_ne_of_ne (by decide))).trans ((keeps1 _ main_arg8 (by decide)).trans
    ((keepsR (V1 m) d main_arg8 (by decide)).trans (V1_arg8 m d))))

theorem V1_arg9 (d : Dev nD) : V1 m d (Proc.devRef .tc main_arg9) = m (d, Proc.devRef .tc main_arg9) :=
  keeps0 _ main_arg9 (by decide)
theorem V5_arg9 (d : Dev nD) : V5 m d (Proc.devRef .tc main_arg9) = m (d, Proc.devRef .tc main_arg9) :=
  (keeps2 _ main_arg9 (by decide)).trans ((V4_off m d _ (StableHlo.devRef_ne_of_ne (by decide))).trans ((keeps1 _ main_arg9 (by decide)).trans
    ((keepsR (V1 m) d main_arg9 (by decide)).trans (V1_arg9 m d))))

theorem V1_arg10 (d : Dev nD) : V1 m d (Proc.devRef .tc main_arg10) = m (d, Proc.devRef .tc main_arg10) :=
  keeps0 _ main_arg10 (by decide)
theorem V5_arg10 (d : Dev nD) : V5 m d (Proc.devRef .tc main_arg10) = m (d, Proc.devRef .tc main_arg10) :=
  (keeps2 _ main_arg10 (by decide)).trans ((V4_off m d _ (StableHlo.devRef_ne_of_ne (by decide))).trans ((keeps1 _ main_arg10 (by decide)).trans
    ((keepsR (V1 m) d main_arg10 (by decide)).trans (V1_arg10 m d))))

theorem V1_arg11 (d : Dev nD) : V1 m d (Proc.devRef .tc main_arg11) = m (d, Proc.devRef .tc main_arg11) :=
  keeps0 _ main_arg11 (by decide)
theorem V5_arg11 (d : Dev nD) : V5 m d (Proc.devRef .tc main_arg11) = m (d, Proc.devRef .tc main_arg11) :=
  (keeps2 _ main_arg11 (by decide)).trans ((V4_off m d _ (StableHlo.devRef_ne_of_ne (by decide))).trans ((keeps1 _ main_arg11 (by decide)).trans
    ((keepsR (V1 m) d main_arg11 (by decide)).trans (V1_arg11 m d))))

theorem reads_v7 (W : Valuation τ sig (Elt F)) : (StableHlo.after ops1 W (Proc.devRef .tc main_v7) : Vec F S8192 .f32)
    = shapeCast S8192 (W (Proc.devRef .tc main_v6_4) : Vec F S8192x1 .f32) shapeCasts_S8192x1_S8192 := by
  after_results_simp <;> rfl
theorem reads_v8 (W : Valuation τ sig (Elt F)) : (StableHlo.after ops1 W (Proc.devRef .tc main_v8) : Vec F S98304 .i32)
    = shapeCast S98304 (W (Proc.devRef .tc main_v6_2) : Vec F S8192x12 .i32) shapeCasts_S8192x12_S98304 := by
  after_results_simp <;> rfl
theorem reads_v9 (W : Valuation τ sig (Elt F)) : (StableHlo.after ops1 W (Proc.devRef .tc main_v9) : Vec F S98304 .f32)
    = shapeCast S98304 (W (Proc.devRef .tc main_v6_3) : Vec F S8192x12 .f32) shapeCasts_S8192x12_S98304 := by
  after_results_simp <;> rfl

/-- The index list the SparseCore reads: the TensorCore kernel's third result, row by row. -/
theorem Xd_eq (d : Dev nD) : Xd m d = shapeCast S98304 (Va (V1 m) d (Proc.devRef .tc main_v6_2) : Vec F S8192x12 .i32) shapeCasts_S8192x12_S98304 :=
  reads_v8 (V2 m d)

theorem hX (d : Dev nD) (j : S98304.Idx) : BitVec.toNat (Xd m d j) < 8192 := by
  rw [Xd_eq, fin_15]
  show BitVec.toNat (((dats (V1 m) 0 d).after 15 (blkOf _) : Vec F S128x12 .i32) (ix2 _ _)) < 8192
  rw [afterW_15]
  exact idxOf_lt _ _ _ _

/-! ## The frames -/

theorem mem_uc (r : Ref sig .tc) (h : Proc.devRef .tc r ∈ Pipeline.ucRefs τ sig) (x : PUnit × MemSt nD τ sig (Elt F)) (hx : QC m x) (d : Dev nD) :
    x.2.mem ((d.tc : Thread nD τ).loc r) = V5 m d (Proc.devRef .tc r) := hx.1 d _ h

/-- The arguments, at the end of the run. -/
theorem args_kept (x : PUnit × MemSt nD τ sig (Elt F)) (hx : QC m x) (c : Dev nD) :
    x.2.mem ((c.tc : Thread nD τ).loc main_arg0) = m ((c.tc : Thread nD τ).loc main_arg0)
    ∧ x.2.mem ((c.tc : Thread nD τ).loc main_arg1) = m ((c.tc : Thread nD τ).loc main_arg1)
    ∧ x.2.mem ((c.tc : Thread nD τ).loc main_arg2) = m ((c.tc : Thread nD τ).loc main_arg2)
    ∧ x.2.mem ((c.tc : Thread nD τ).loc main_arg3) = m ((c.tc : Thread nD τ).loc main_arg3)
    ∧ x.2.mem ((c.tc : Thread nD τ).loc main_arg4) = m ((c.tc : Thread nD τ).loc main_arg4)
    ∧ x.2.mem ((c.tc : Thread nD τ).loc main_arg5) = m ((c.tc : Thread nD τ).loc main_arg5)
    ∧ x.2.mem ((c.tc : Thread nD τ).loc main_arg6) = m ((c.tc : Thread nD τ).loc main_arg6)
    ∧ x.2.mem ((c.tc : Thread nD τ).loc main_arg7) = m ((c.tc : Thread nD τ).loc main_arg7)
    ∧ x.2.mem ((c.tc : Thread nD τ).loc main_arg8) = m ((c.tc : Thread nD τ).loc main_arg8)
    ∧ x.2.mem ((c.tc : Thread nD τ).loc main_arg9) = m ((c.tc : Thread nD τ).loc main_arg9)
    ∧ x.2.mem ((c.tc : Thread nD τ).loc main_arg10) = m ((c.tc : Thread nD τ).loc main_arg10)
    ∧ x.2.mem ((c.tc : Thread nD τ).loc main_arg11) = m ((c.tc : Thread nD τ).loc main_arg11) :=
  ⟨(hx.1 c _ (Finset.mem_filter.mpr ⟨StableHlo.devRef_mem_tcRefs main_arg0, by decide⟩)).trans (V5_arg0 m c),
    (hx.1 c _ (Finset.mem_filter.mpr ⟨StableHlo.devRef_mem_tcRefs main_arg1, by decide⟩)).trans (V5_arg1 m c),
    (hx.1 c _ (Finset.mem_filter.mpr ⟨StableHlo.devRef_mem_tcRefs main_arg2, by decide⟩)).trans (V5_arg2 m c),
    (hx.1 c _ (Finset.mem_filter.mpr ⟨StableHlo.devRef_mem_tcRefs main_arg3, by decide⟩)).trans (V5_arg3 m c),
    (hx.1 c _ (Finset.mem_filter.mpr ⟨StableHlo.devRef_mem_tcRefs main_arg4, by decide⟩)).trans (V5_arg4 m c),
    (hx.1 c _ (Finset.mem_filter.mpr ⟨StableHlo.devRef_mem_tcRefs main_arg5, by decide⟩)).trans (V5_arg5 m c),
    (hx.1 c _ (Finset.mem_filter.mpr ⟨StableHlo.devRef_mem_tcRefs main_arg6, by decide⟩)).trans (V5_arg6 m c),
    (hx.1 c _ (Finset.mem_filter.mpr ⟨StableHlo.devRef_mem_tcRefs main_arg7, by decide⟩)).trans (V5_arg7 m c),
    (hx.1 c _ (Finset.mem_filter.mpr ⟨StableHlo.devRef_mem_tcRefs main_arg8, by decide⟩)).trans (V5_arg8 m c),
    (hx.1 c _ (Finset.mem_filter.mpr ⟨StableHlo.devRef_mem_tcRefs main_arg9, by decide⟩)).trans (V5_arg9 m c),
    (hx.1 c _ (Finset.mem_filter.mpr ⟨StableHlo.devRef_mem_tcRefs main_arg10, by decide⟩)).trans (V5_arg10 m c),
    (hx.1 c _ (Finset.mem_filter.mpr ⟨StableHlo.devRef_mem_tcRefs main_arg11, by decide⟩)).trans (V5_arg11 m c)⟩

/-- The kernel over words and over the extended reals is one program: its frame, of the one run. -/
theorem frame_kernelIdeal : Cert.quiescent_KernelIdeal := by
  intro m ρ _
  refine (θ_run (Cert.KernelIdeal.defs (F := Ideal)) _ _).mono (fun x (h : QC (F := Ideal) m x) => ?_) (run_main (F := Ideal) m ρ (hX (F := Ideal) m))
  exact ⟨fun c => args_kept (F := Ideal) m x h c, h.2⟩

end Cert.Proof

end
-- ==== Proof.SameText.lean ====
/-
  The two kernel programs, at the machine's floats and at the ideal ones, are one text: at the same float instance their bodies, their body
  tables and their host programs are equal. With this a statement proved of the one program is a statement of the other.
-/
module
public import proofs.«01_k».proof.Proof.Frames
@[expose] public section
noncomputable section
namespace Cert.Proof
open Idealize.ShloMosaic Idealize.SL.Sem
set_option maxRecDepth 100000
set_option maxHeartbeats 8000000

/-- The TensorCore body is the same in both. -/
theorem body0_same : @Cert.Kernel.cc0__tc_body Bits _ _ = @Cert.KernelIdeal.cc0__tc_body Bits _ _ := rfl
/-- The SparseCore body is the same in both. -/
theorem body1_same : @Cert.Kernel.cc1_k Bits _ _ = @Cert.KernelIdeal.cc1_k Bits _ _ := rfl
/-- The tables of the kernels' bodies are the same. -/
theorem defs0_same : @Cert.Kernel.defs₀ Bits _ _  = @Cert.KernelIdeal.defs₀ Bits _ _ := by
  unfold Cert.Kernel.defs₀ Cert.KernelIdeal.defs₀
  rw [body0_same, body1_same]
  funext p l a
  cases p with
  | tc =>
    match l with
    | 0 => rfl
    | 1 => rfl
  | scVector c s =>
    match l with
    | 0 => rfl
    | 1 => rfl
  | _ =>
    match l with
    | 0 => rfl
    | 1 => rfl
/-- The host programs are the same. -/
theorem main_same (d) : Cert.Kernel.main (F := Bits) d = Cert.KernelIdeal.main (F := Bits) d := rfl
end Cert.Proof
end
-- ==== Proof.SameRun.lean ====
/-
  The two printed programs' tables of bodies and threads are the same.
-/
module

public import proofs.«01_k».proof.Proof.SameText

@[expose] public section

set_option maxRecDepth 100000
set_option maxHeartbeats 8000000

noncomputable section

namespace Cert.Proof

open Idealize.ShloMosaic Idealize.SL.Sem

/-- The two programs' tables of bodies, with the launches, are the same. -/
theorem defs_same : @Cert.Kernel.defs Bits _ _ = @Cert.KernelIdeal.defs Bits _ _ := by
  unfold Cert.Kernel.defs Cert.KernelIdeal.defs
  rw [defs0_same]
  rfl

/-- The two programs' threads are the same. -/
theorem threads_same : (fun c => Cert.Kernel.threads (F := Bits) c) = fun c => Cert.KernelIdeal.threads (F := Bits) c := by
  have h : Cert.Kernel.main (F := Bits) = Cert.KernelIdeal.main (F := Bits) := funext main_same
  unfold Cert.Kernel.threads Cert.KernelIdeal.threads
  rw [h]
  rfl

end Cert.Proof

end
-- ==== Proof.FrameP.lean ====
/-
  The frame of the kernel at the machine's floats, from the same run: the two programs are one text.
-/
module

public import proofs.«01_k».proof.Proof.SameRun

@[expose] public section

set_option maxRecDepth 100000
set_option maxHeartbeats 8000000

noncomputable section

namespace Cert.Proof

open Idealize.ShloMosaic Idealize.SL.Sem

theorem frame_kernel : Cert.quiescent_Kernel := by
  intro m ρ _
  refine (congrArg₂ (fun D T => (θ_run D T ⟨m, fun _ => 0, ρ⟩) _) defs_same threads_same).mpr ?_
  exact (θ_run (Cert.KernelIdeal.defs (F := Bits)) _ _).mono (fun x (h : QC (F := Bits) m x) => ⟨fun c => args_kept (F := Bits) m x h c, h.2⟩)
    (run_main (F := Bits) m ρ (hX (F := Bits) m))

end Cert.Proof

end
-- ==== Proof.RefFrame.lean ====
/-
  The reference's frame, read off its run: it declares no semaphore.
-/
module

public import proofs.«01_k».proof.Defs
public import proofs.«01_k».proof.Proof.Gen.ReferenceIdeal.Run
public import Idealize.ShloMosaic.Lib.Claim
public import Idealize.ShloMosaic.Lib.SparseCore

@[expose] public section

noncomputable section

namespace Cert.Proof

open Idealize.ShloMosaic Idealize.SL.Sem

theorem frame_reference : Cert.quiescent_ReferenceIdeal := by
  intro m ρ _
  exact (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

end Cert.Proof

end
-- ==== Proof.Rounds.lean ====
/-
  Twelve rounds of "the greatest key below the last one" read off the neighbours in the order in which a stable sort by distance puts them.
  A key packs a point's ranking word with its number: 8192 times the word, plus 8191 less the number. So keys are pairwise different, they
  compare as the words do, and of equal words the lower number has the greater key: the order in which a stable descending sort leaves them.
-/
module

public import Idealize.ShloMosaic.Lib.SortNet.Positions
public import Idealize.ShloMosaic.Lib.SortFacts
public import Idealize.ShloMosaic.PureOps.Reduce

@[expose] public section

namespace Cert.Proof

open Idealize.ShloMosaic Idealize.ShloMosaic.SortNet

/-! ## A stable sort asks its comparator about pairs in list order only -/

theorem stableSort_congr_inOrder {ι : Type} (R R' : ι → ι → Bool) :
    ∀ l : List ι, l.Pairwise (fun a b => R b a = R' b a) → stableSort R l = stableSort R' l
  | [], _ => rfl
  | a :: l, h => by
    rw [List.pairwise_cons] at h
    unfold stableSort
    rw [stableSort_congr_inOrder R R' l h.2]
    exact insertBefore_congr R R' a _ fun b hb => h.1 b ((perm_stableSort R' l).mem_iff.mp hb)

theorem sortedFrom_congr_inOrder {n : ℕ} (R R' : Fin n → Fin n → Bool) (h : ∀ a b : Fin n, a < b → R b a = R' b a) :
    sortedFrom R = sortedFrom R' := by
  have e : sortPositions n R = sortPositions n R' :=
    stableSort_congr_inOrder R R' _ ((List.pairwise_lt_finRange n).imp fun {a b} hab => h a b hab)
  funext k
  unfold sortedFrom
  rw [List.get_of_eq e]
  rfl

/-- Sorted by pairwise different integers, greatest first, the integers fall strictly. -/
theorem sortedFrom_strictAnti {n : ℕ} (e : Fin n → ℤ) (he : Function.Injective e) (i j : Fin n) (hij : i < j) :
    e (sortedFrom (greaterFirst e) j) < e (sortedFrom (greaterFirst e) i) := by
  have hB := strictTotalBefore_greaterFirst e he
  have h := sortedFrom_noInversion (greaterFirst e) (greaterFirst e) (fun a b h => hB.asymm a b h) (fun _ _ h => h) hB.negTrans i j hij
  simp only [greaterFirst, decide_eq_false_iff_not, not_lt] at h
  refine lt_of_le_of_ne h fun h' => ?_
  exact absurd (sortedFrom_injective _ (he h')) (ne_of_gt hij)

/-! ## The greatest word -/

theorem toInt_maxsi (x y : BitVec 32) : (IntOp.maxsi x y).toInt = max x.toInt y.toInt := by
  unfold IntOp.maxsi
  split
  · rename_i h
    have : x.toInt ≤ y.toInt ∨ y.toInt ≤ x.toInt := le_total _ _
    simp only [BitVec.sle_eq_decide, BitVec.slt_eq_decide, decide_eq_true_eq] at h
    omega
  · rename_i h
    simp only [BitVec.sle_eq_decide, BitVec.slt_eq_decide, decide_eq_true_eq] at h
    omega

/-- A fold of the signed maximum from the least word is a word that the family takes and none exceeds. -/
theorem fold_maxsi {ι : Type} (s : Finset ι) (f : ι → BitVec 32) (M : BitVec 32) (hM : ∃ i ∈ s, f i = M)
    (hle : ∀ i ∈ s, (f i).toInt ≤ M.toInt) : s.fold (IKind.maxsi).op 2147483648#32 f = M := by
  have h : (s.fold (IKind.maxsi).op 2147483648#32 f).toInt = s.fold max (2147483648#32 : BitVec 32).toInt fun i => (f i).toInt :=
    (Finset.fold_hom (op := (IKind.maxsi).op) (op' := max) (m := BitVec.toInt) (fun x y => toInt_maxsi x y)).symm
  apply BitVec.eq_of_toInt_eq
  rw [h]
  apply le_antisymm
  · rw [Finset.fold_max_le]
    refine ⟨?_, hle⟩
    have := BitVec.le_toInt M
    have e : (2147483648#32 : BitVec 32).toInt = -2147483648 := by decide
    rw [e]; simpa using this
  · rw [Finset.le_fold_max]
    obtain ⟨i, hi, rfl⟩ := hM
    exact Or.inr ⟨i, hi, le_rfl⟩

/-! ## The keys -/

/-- The key of point `j` whose ranking word is `w`. -/
def keyOf (w : BitVec 32) (j : Fin 8192) : BitVec 32 := w * 8192#32 + (8191#32 - BitVec.ofNat 32 j.val)

theorem toInt_keyOf (w : BitVec 32) (j : Fin 8192) (h0 : -262080 ≤ w.toInt) (h1 : w.toInt ≤ 0) :
    (keyOf w j).toInt = 8192 * w.toInt + (8191 - j.val) := by
  have hj := j.isLt
  unfold keyOf
  have e1 : (8191#32 - BitVec.ofNat 32 j.val).toInt = 8191 - j.val := by
    rw [BitVec.toInt_sub]
    have a : (8191#32 : BitVec 32).toInt = 8191 := by decide
    have b : (BitVec.ofNat 32 j.val).toInt = j.val := by
      rw [BitVec.toInt_ofNat']; rw [Int.bmod_eq_of_le] <;> omega
    rw [a, b, Int.bmod_eq_of_le] <;> omega
  have e2 : (w * 8192#32).toInt = 8192 * w.toInt := by
    rw [BitVec.toInt_mul]
    have a : (8192#32 : BitVec 32).toInt = 8192 := by decide
    rw [a, Int.bmod_eq_of_le] <;> omega
  rw [BitVec.toInt_add, e1, e2, Int.bmod_eq_of_le] <;> omega

/-- The number of the point, back from its key: 8191 less the key's low 13 bits. -/
theorem keyOf_low (w : BitVec 32) (j : Fin 8192) : 8191#32 - (keyOf w j &&& 8191#32) = BitVec.ofNat 32 j.val := by
  have hj := j.isLt
  have e : (keyOf w j &&& 8191#32).toNat = 8191 - j.val := by
    rw [BitVec.toNat_and]
    have a : (8191#32 : BitVec 32).toNat = 2 ^ 13 - 1 := by decide
    rw [a, Nat.and_two_pow_sub_one_eq_mod]
    unfold keyOf
    rw [BitVec.toNat_add, BitVec.toNat_mul, BitVec.toNat_sub]
    simp only [BitVec.toNat_ofNat]
    omega
  apply BitVec.eq_of_toNat_eq
  rw [BitVec.toNat_sub, e]
  simp only [BitVec.toNat_ofNat]
  omega

section Row

variable (near : Fin 8192 → BitVec 32)

/-- The order of the points by ranking word, greatest first, of equal words the lower number first. -/
def nearest (k : Fin 8192) : Fin 8192 := sortedFrom (fun a b => IntOp.cmpi .sgt (near a) (near b) == 1#1) k

variable (h0 : ∀ j, -262080 ≤ (near j).toInt) (h1 : ∀ j, (near j).toInt ≤ 0)
include h0 h1

theorem key_injective : Function.Injective fun j => (keyOf (near j) j).toInt := by
  intro a b h
  have h : (keyOf (near a) a).toInt = (keyOf (near b) b).toInt := h
  rw [toInt_keyOf _ _ (h0 a) (h1 a), toInt_keyOf _ _ (h0 b) (h1 b)] at h
  have := a.isLt; have := b.isLt
  exact Fin.ext (by omega)

/-- The stable sort by ranking word is the sort by key. -/
theorem nearest_eq : nearest near = sortedFrom (greaterFirst fun j => (keyOf (near j) j).toInt) := by
  unfold nearest
  funext k
  refine congrFun (sortedFrom_congr_inOrder _ _ fun a b hab => ?_) k
  have ha := a.isLt; have hb := b.isLt
  have hab' : a.val < b.val := hab
  have e : (IntOp.cmpi .sgt (near b) (near a) == 1#1) = decide ((near a).toInt < (near b).toInt) := by
    show (BitVec.ofBool ((near a).slt (near b)) == 1#1) = _
    rw [BitVec.slt_eq_decide]
    by_cases h : (near a).toInt < (near b).toInt <;> simp [h]
  rw [e]
  have ea := toInt_keyOf (near a) a (h0 a) (h1 a)
  have eb := toInt_keyOf (near b) b (h0 b) (h1 b)
  refine decide_eq_decide.mpr ?_
  show _ ↔ (keyOf (near a) a).toInt < (keyOf (near b) b).toInt
  constructor <;> intro h <;> omega

/-- The key of the `k`-th nearest point falls strictly with `k`. -/
theorem key_nearest_lt (i j : Fin 8192) (hij : i < j) :
    (keyOf (near (nearest near j)) (nearest near j)).toInt < (keyOf (near (nearest near i)) (nearest near i)).toInt := by
  rw [nearest_eq near h0 h1]
  exact sortedFrom_strictAnti _ (key_injective near h0 h1) i j hij

/-- One round: of the keys below `m`, which is above the `k`-th nearest point's and no higher than its predecessor's, the greatest is
    the `k`-th nearest point's. -/
theorem round_max {ι : Type} (s : Finset ι) (col : ι → Fin 8192) (hcol : ∀ j, ∃ i ∈ s, col i = j) (m : BitVec 32) (k : Fin 8192)
    (hlt : (keyOf (near (nearest near k)) (nearest near k)).toInt < m.toInt)
    (hge : ∀ i : Fin 8192, i < k → m.toInt ≤ (keyOf (near (nearest near i)) (nearest near i)).toInt) :
    s.fold (IKind.maxsi).op 2147483648#32 (fun i => Scalar.select (IntOp.cmpi .slt (keyOf (near (col i)) (col i)) m) (keyOf (near (col i)) (col i)) 2147483648#32)
      = keyOf (near (nearest near k)) (nearest near k) := by
  have sel : ∀ (x : BitVec 32), Scalar.select (IntOp.cmpi .slt x m) x 2147483648#32 = if x.toInt < m.toInt then x else 2147483648#32 := by
    intro x
    show (if BitVec.ofBool (x.slt m) = 1 then x else 2147483648#32) = _
    rw [BitVec.slt_eq_decide]
    by_cases h : x.toInt < m.toInt <;> simp [h]
  refine fold_maxsi s _ _ ?_ ?_
  · obtain ⟨i, hi, hc⟩ := hcol (nearest near k)
    refine ⟨i, hi, ?_⟩
    rw [sel, hc, if_pos hlt]
  · intro i _
    rw [sel]
    by_cases h : (keyOf (near (col i)) (col i)).toInt < m.toInt
    · rw [if_pos h]
      obtain ⟨p, hp⟩ := sortedFrom_surjective (fun a b => IntOp.cmpi .sgt (near a) (near b) == 1#1) (col i)
      have hp : nearest near p = col i := hp
      rw [← hp] at h ⊢
      by_cases hpk : p < k
      · exact absurd h (not_lt.mpr (hge p hpk))
      · rcases eq_or_lt_of_le (not_lt.mp hpk) with e | e
        · rw [e]
        · exact le_of_lt (key_nearest_lt near h0 h1 k p e)
    · rw [if_neg h]
      have := BitVec.le_toInt (keyOf (near (nearest near k)) (nearest near k))
      have e : (2147483648#32 : BitVec 32).toInt = -2147483648 := by decide
      rw [e]; simpa using this

end Row

end Cert.Proof
-- ==== Proof.Maths.lean ====
/-
  The problem's mathematics over the extended reals, row by row: what both programs compute.
-/
module

public import proofs.«01_k».proof.Proof.Rounds
public import Idealize.ShloMosaic.Lib.Pointwise
public import Idealize.ShloMosaic.PureOps.Ideal.Laws

@[expose] public section

set_option maxRecDepth 16384

noncomputable section

namespace Cert.Proof

open Idealize.ShloMosaic Idealize.ShloMosaic.Tactic

/-- A vector and a matrix of ideal floats. -/
abbrev Arr1 (a : Nat) := (⟨1, ![a]⟩ : Shape).Idx → EReal
abbrev Arr2 (a b : Nat) := (⟨2, ![a, b]⟩ : Shape).Idx → EReal

/-! ## The neighbours -/

/-- Minus the squared distance of points `i` and `j`. -/
def minusDist (A : Arr2 8192 3) (i j : Fin 8192) : EReal :=
  -(∑ x : Fin 3, A (ix2 i x) * A (ix2 i x) - Ideal.ofBits .f32 0x40000000#32 * ∑ x : Fin 3, A (ix2 i x) * A (ix2 j x) + ∑ x : Fin 3, A (ix2 j x) * A (ix2 j x))

/-- A distance as a ranking word: clipped, in 64ths. -/
def rankWord (d : EReal) : BitVec 32 :=
  FloatOps.fptosi (F := Ideal) (φ := .f32) 32 (max d (Ideal.ofBits .f32 0xC57FF000#32) * Ideal.ofBits .f32 0x42800000#32)

/-- The ranking words of the points as seen from point `i`. -/
def near (A : Arr2 8192 3) (i j : Fin 8192) : BitVec 32 := rankWord (minusDist A i j)

/-- The `c`-th nearest point of point `i`. -/
def nbr (A : Arr2 8192 3) (i : Fin 8192) (c : Fin 12) : Fin 8192 := nearest (near A i) ⟨c.val, by have := c.isLt; omega⟩

theorem ofBits_two : Ideal.ofBits .f32 0x40000000#32 = ((2 : ℝ) : EReal) := by
  simp [Ideal.ofBits, Ideal.ieee]; rw [← EReal.coe_mul]; norm_num
theorem ofBits_clip : Ideal.ofBits .f32 0xC57FF000#32 = ((-4095 : ℝ) : EReal) := by
  simp [Ideal.ofBits, Ideal.ieee]; rw [← EReal.coe_mul]; norm_num
theorem ofBits_sixtyfour : Ideal.ofBits .f32 0x42800000#32 = ((64 : ℝ) : EReal) := by
  simp [Ideal.ofBits, Ideal.ieee]; rw [← EReal.coe_mul]; norm_num

/-- The ranking word of a real that is not positive: clipped, in 64ths, towards zero. -/
theorem rankWord_eq (d : ℝ) (hd : d ≤ 0) : rankWord (d : EReal) = BitVec.ofInt 32 ⌈max d (-4095) * 64⌉ := by
  unfold rankWord
  rw [ofBits_clip, ofBits_sixtyfour, ← EReal.coe_strictMono.monotone.map_max, ← EReal.coe_mul]
  show Ideal.fptosi 32 _ = _
  have h1 : max d (-4095) ≤ 0 := max_le hd (by norm_num)
  have h2 : (-4095 : ℝ) ≤ max d (-4095) := le_max_right _ _
  have hc1 : ⌈max d (-4095) * 64⌉ ≤ 0 := Int.ceil_le.mpr (by push_cast; nlinarith)
  have hc2 : -262080 ≤ ⌈max d (-4095) * 64⌉ := by
    have : ((-262080 : ℤ) : ℝ) ≤ (⌈max d (-4095) * 64⌉ : ℝ) := le_trans (by push_cast; nlinarith) (Int.le_ceil _)
    exact_mod_cast this
  rw [Ideal.fptosi, Ideal.toIntClamped_coe]
  congr 1
  have hif : (if 0 ≤ max d (-4095) * 64 then ⌊max d (-4095) * 64⌋ else ⌈max d (-4095) * 64⌉) = ⌈max d (-4095) * 64⌉ := by
    split
    · rename_i h
      have : max d (-4095) * 64 = 0 := le_antisymm (by nlinarith) h
      rw [this]; simp
    · rfl
  rw [hif]
  norm_num
  omega

/-- The ranking word of a real that is not positive lies between -262080 and 0. -/
theorem rankWord_range (d : ℝ) (hd : d ≤ 0) : -262080 ≤ (rankWord (d : EReal)).toInt ∧ (rankWord (d : EReal)).toInt ≤ 0 := by
  have h1 : max d (-4095) ≤ 0 := max_le hd (by norm_num)
  have h2 : (-4095 : ℝ) ≤ max d (-4095) := le_max_right _ _
  have hc1 : ⌈max d (-4095) * 64⌉ ≤ 0 := Int.ceil_le.mpr (by push_cast; nlinarith)
  have hc2 : -262080 ≤ ⌈max d (-4095) * 64⌉ := by
    have : ((-262080 : ℤ) : ℝ) ≤ (⌈max d (-4095) * 64⌉ : ℝ) := le_trans (by push_cast; nlinarith) (Int.le_ceil _)
    exact_mod_cast this
  rw [rankWord_eq d hd, BitVec.toInt_ofInt_eq_self (by norm_num) (by norm_num; omega) (by norm_num; omega)]
  exact ⟨hc2, hc1⟩

/-- Every coordinate is a real. -/
def Finite (A : Arr2 8192 3) : Prop := ∃ a : Fin 8192 → Fin 3 → ℝ, ∀ i k, A (ix2 i k) = (a i k : EReal)

/-- Over the reals it is minus the sum of the squared differences. -/
theorem minusDist_real (A : Arr2 8192 3) (a : Fin 8192 → Fin 3 → ℝ) (ha : ∀ i k, A (ix2 i k) = (a i k : EReal)) (i j : Fin 8192) :
    minusDist A i j = ((-((a i 0 - a j 0) ^ 2 + (a i 1 - a j 1) ^ 2 + (a i 2 - a j 2) ^ 2) : ℝ) : EReal) := by
  unfold minusDist
  simp only [Fin.sum_univ_three, ha, ofBits_two]
  norm_cast
  ring

theorem near_range (A : Arr2 8192 3) (h : Finite A) (i j : Fin 8192) : -262080 ≤ (near A i j).toInt ∧ (near A i j).toInt ≤ 0 := by
  obtain ⟨a, ha⟩ := h
  unfold near
  rw [minusDist_real A a ha]
  exact rankWord_range _ (by nlinarith [sq_nonneg (a i 0 - a j 0), sq_nonneg (a i 1 - a j 1), sq_nonneg (a i 2 - a j 2)])

theorem minusDist_eq (A : Arr2 8192 3) (h : Finite A) (i j : Fin 8192) :
    Ideal.ofBits .f32 0x40000000#32 * ∑ x : Fin 3, A (ix2 i x) * A (ix2 j x) - ∑ x : Fin 3, A (ix2 i x) * A (ix2 i x) - ∑ x : Fin 3, A (ix2 j x) * A (ix2 j x)
      = minusDist A i j := by
  obtain ⟨a, ha⟩ := h
  unfold minusDist
  simp only [Fin.sum_univ_three, ha, ofBits_two]
  norm_cast
  ring

/-! ## The predictions and the loss -/

/-- The grey of a colour. -/
def gray (R : Arr2 8192 3) (i : Fin 8192) : EReal :=
  R (ix2 i 0) * Ideal.ofBits .f32 0x3E991687#32 + R (ix2 i 1) * Ideal.ofBits .f32 0x3F1645A2#32 + R (ix2 i 2) * Ideal.ofBits .f32 0x3DE978D5#32

/-- The hidden features of point `i`. -/
def hidden (f : Arr2 8192 128) (W3 : Arr2 128 128) (b3 : Arr1 128) (i : Fin 8192) (k : Fin 128) : EReal :=
  (∑ l : Fin 128, f (ix2 i l) * W3 (ix2 l k)) + b3 (ix1 k)

/-- The fifteen predictions of point `i`: three colours and twelve edges. -/
def pred (f : Arr2 8192 128) (W3 : Arr2 128 128) (b3 : Arr1 128) (W4 : Arr2 128 128) (b4 : Arr1 128) (W5 : Arr2 128 15) (i : Fin 8192) (q : Fin 15) : EReal :=
  ∑ p : Fin 128, ((∑ k : Fin 128, hidden f W3 b3 i k * W4 (ix2 k p)) + b4 (ix1 p)) * W5 (ix2 p q)

/-- The sum of the colours' deviations, and of the edges'. -/
def colourSum (R : Arr2 8192 3) (q : Fin 8192 → Fin 15 → EReal) : EReal :=
  ∑ i : Fin 8192, ∑ c : Fin 3, FloatOps.absf (F := Ideal) (φ := .f32) (q i ⟨c.val, by have := c.isLt; omega⟩ - R (ix2 i c))
def edgeSum (A R : Arr2 8192 3) (q : Fin 8192 → Fin 15 → EReal) : EReal :=
  ∑ i : Fin 8192, ∑ c : Fin 12,
    FloatOps.absf (F := Ideal) (φ := .f32) (gray R (nbr A i c) - gray R i - q i ⟨3 + c.val, by have := c.isLt; omega⟩)

/-- The loss. -/
def loss (A R : Arr2 8192 3) (q : Fin 8192 → Fin 15 → EReal) : EReal :=
  Ideal.div (colourSum R q) (Ideal.ofBits .f32 0x46C00000#32)
    + Ideal.ofBits .f32 0x3DCCCCCD#32 * Ideal.div (edgeSum A R q) (Ideal.ofBits .f32 0x47C00000#32)

/-- The deviation from a target that holds both summands is the deviation of the difference. -/
theorem absf_sub_add (g a b : EReal) :
    FloatOps.absf (F := Ideal) (φ := .f32) (g - (a + b)) = FloatOps.absf (F := Ideal) (φ := .f32) (g - a - b) := by
  show max _ (-_) = max _ (-_)
  induction g using EReal.rec <;> induction a using EReal.rec <;> induction b using EReal.rec <;>
    first
    | (norm_cast; rw [sub_sub])
    | simp; done
    | (rw [EReal.add_bot, ← EReal.coe_sub, EReal.coe_sub_bot, EReal.coe_sub_bot]; done)
    | (rw [← EReal.coe_add, EReal.top_sub_coe, EReal.top_sub_coe, EReal.top_sub_coe]; done)

end Cert.Proof

end
-- ==== Proof.RefMath.lean ====
/-
  The reference's results, as its run leaves them, are the problem's mathematics.
-/
module

public import proofs.«01_k».proof.Proof.Gen.ReferenceIdeal.Run
public import proofs.«01_k».proof.Proof.Maths

@[expose] public section

set_option maxRecDepth 16384

noncomputable section

namespace Cert.Proof.Ref

open Cert.ReferenceIdeal Cert.ReferenceIdeal.Gen
open Idealize.ShloMosaic Idealize.ShloMosaic.Tactic

/-! ## The ranking words and their order -/

def nearOf (A0 : FVec Ideal S8192x3 .f32) : IVec S8192x8192 32 :=
  fptosi 32 (mulf (maximumf (Host.negf (addf (subf (broadcastInDim S8192x8192 ![0, 1] bcast_S8192x1_S8192x8192_0_1 (broadcastInDim S8192x1 ![0] bcast_S8192_S8192x1_0 (Host.reduceAdd (mulf A0 A0) (constant S_ .f32 0x00000000#32) reducesTo_S8192x3_S8192_d1 h_S_))) (mulf (broadcastInDim S8192x8192 ![] bcast_S_S8192x8192 (constant S_ .f32 0x40000000#32)) (Host.dotGeneral dot_S8192x3_S3x8192_S8192x8192_1_0_0_1_n_n none A0 (transpose S3x8192 [1, 0] A0 transposes_S8192x3_S3x8192_1_0)))) (broadcastInDim S8192x8192 ![0, 1] bcast_S1x8192_S8192x8192_0_1 (broadcastInDim S1x8192 ![1] bcast_S8192_S1x8192_1 (Host.reduceAdd (mulf A0 A0) (constant S_ .f32 0x00000000#32) reducesTo_S8192x3_S8192_d1 h_S_))))) (broadcastInDim S8192x8192 ![] bcast_S_S8192x8192 (constant S_ .f32 0xC57FF000#32))) (broadcastInDim S8192x8192 ![] bcast_S_S8192x8192 (constant S_ .f32 0x42800000#32)))

theorem nearOf_apply (A0 : FVec Ideal S8192x3 .f32) (i j : Fin 8192) : nearOf A0 (ix2 i j) = near A0 i j := by
  refine Eq.trans ?_ (show FloatOps.fptosi (F := Ideal) (φ := .f32) 32 (max (-(∑ x : Fin 3, A0 (ix2 i x) * A0 (ix2 i x) - Ideal.ofBits .f32 0x40000000#32 * ∑ x : Fin 3, A0 (ix2 i x) * A0 (ix2 j x) + ∑ x : Fin 3, A0 (ix2 j x) * A0 (ix2 j x))) (Ideal.ofBits .f32 0xC57FF000#32) * Ideal.ofBits .f32 0x42800000#32) = near A0 i j from rfl)
  pointwise [nearOf]

/-- A matrix's rows sorted stably, greatest first, with the columns' numbers carried along: where the numbers end. -/
theorem sort2_row {α : Type} (gt : α → α → BitVec 1) {n p : Nat} (N : (⟨2, ![n, p]⟩ : Shape).Idx → α) (i : Fin n) (k : Fin p) :
    (Host.sort2 ⟨2, ![n, p]⟩ 1 (fun l r => gt l.1 r.1) N (iotaInDim ⟨2, ![n, p]⟩ 32 1)).2 (ix2 i k)
      = BitVec.ofNat 32 (sortedFrom (fun a b : Fin p => gt (N (ix2 i a)) (N (ix2 i b)) == 1#1) k).val := by
  have hal : ∀ q : Fin p, N (Shape.Idx.along (ix2 i k : (⟨2, ![n, p]⟩ : Shape).Idx) (1 : Fin 2) q) = N (ix2 i q) := fun q => by
    refine congrArg N (funext fun a => ?_)
    match a with
    | ⟨0, _⟩ => rfl
    | ⟨1, _⟩ => rfl
  exact congrArg (fun R : Fin p → Fin p → Bool => BitVec.ofNat 32 (sortedFrom R k).val)
    (funext fun a => funext fun b => congrArg₂ (fun a b => gt a b == 1#1) (hal a) (hal b))

/-- Column `c` of the ranking is the number of the `c`-th greatest entry of the row. -/
theorem topK_row {α : Type} (gt : α → α → BitVec 1) {n p q : Nat} (hq : q ≤ p) (N : (⟨2, ![n, p]⟩ : Shape).Idx → α)
    (h : (⟨2, ![n, p]⟩ : Shape).Slices (fun _ => 0) ⟨2, ![n, q]⟩) (i : Fin n) (c : Fin q) :
    (Host.topK ⟨2, ![n, q]⟩ 1 gt N h).2 (ix2 i c)
      = BitVec.ofNat 32 (sortedFrom (fun a b : Fin p => gt (N (ix2 i a)) (N (ix2 i b)) == 1#1) ⟨c.val, lt_of_lt_of_le c.isLt hq⟩).val := by
  refine Eq.trans ?_ (sort2_row gt N i _)
  refine congrArg (Host.sort2 ⟨2, ![n, p]⟩ 1 (fun l r => gt l.1 r.1) N (iotaInDim ⟨2, ![n, p]⟩ 32 1)).2 (funext fun a => ?_)
  match a with
  | ⟨0, _⟩ => exact Fin.ext (Nat.zero_add _)
  | ⟨1, _⟩ => exact Fin.ext (Nat.zero_add _)

theorem topK_apply (N : IVec S8192x8192 32) (i : Fin 8192) (c : Fin 12) :
    (Host.topK S8192x12 1 (IntOp.cmpi .sgt) N sliceFits_S8192x8192_S8192x12).2 (ix2 i c)
      = BitVec.ofNat 32 (nearest (fun j => N (ix2 i j)) ⟨c.val, by have := c.isLt; omega⟩).val :=
  topK_row _ (by omega) N _ i c

/-! ## The take of the greys -/

/-- A table's entries at a matrix of places in range. -/
theorem take_apply (G : FVec Ideal S8192 .f32) (I : IVec S8192x12x1 32) (i : Fin 8192) (c : Fin 12) (k : Fin 8192)
    (h : I (ix3 i c 0) = BitVec.ofNat 32 k.val) :
    Host.gather gather_S8192_S8192x12x1_S8192x12_n_0_n_n_0_2_1 G I (ix2 i c) = G (ix1 k) := by
  unfold Host.gather
  refine congrArg G (funext fun a => Fin.ext ?_)
  have ha0 : a = 0 := Subsingleton.elim _ _
  subst ha0
  have hb : (0 : Fin 1) ∉ gather_S8192_S8192x12x1_S8192x12_n_0_n_n_0_2_1.operandBatchingDims := List.not_mem_nil
  have hk : (0 : Fin 1) ∉ gather_S8192_S8192x12x1_S8192x12_n_0_n_n_0_2_1.sKept := by
    rw [GatherDims.mem_sKept]
    exact fun h => h.1 (List.mem_singleton.mpr rfl)
  have hm : (0 : Fin 1) ∈ gather_S8192_S8192x12x1_S8192x12_n_0_n_n_0_2_1.startIndexMap := List.mem_singleton.mpr rfl
  simp only [GatherDims.operandIdx, GatherDims.batchCoord_eq_zero _ _ _ hb, GatherDims.offCoord_eq_zero _ _ _ hk, Nat.add_zero, GatherDims.start, dif_pos hm]
  have e : ∀ q : S8192x12x1.Idx, q = ix3 i c 0 → min (I q).toInt.toNat (8192 - 1) = k.val := by
    rintro q rfl
    rw [h, BitVec.toInt_ofNat']
    have := k.isLt
    have e2 : ((k.val : ℤ).bmod (2 ^ 32)) = k.val := by
      rw [Int.bmod_eq_of_le] <;> omega
    rw [e2]
    omega
  refine e _ (funext fun b => ?_)
  match b with
  | ⟨0, _⟩ => rfl
  | ⟨1, _⟩ => rfl
  | ⟨2, _⟩ => rfl

def grayOf (A2 : FVec Ideal S8192x3 .f32) : FVec Ideal S8192 .f32 :=
  Host.dotGeneral dot_S8192x3_S3_S8192_1_0_0_n_n_n none A2 (fun i => FloatOps.ofBits .f32 (lit0 (S3.rowMajor i)))

theorem grayOf_apply (A2 : FVec Ideal S8192x3 .f32) (i : Fin 8192) : grayOf A2 (ix1 i) = gray A2 i := by
  have h : grayOf A2 (ix1 i) = ∑ k : Fin 3, A2 (ix2 i k) * FloatOps.ofBits .f32 (lit0 (S3.rowMajor (ix1 k))) := by
    pointwise [grayOf]
  rw [h, Fin.sum_univ_three]
  rfl

/-! ## The predictions -/

def hidOf (A1 : FVec Ideal S8192x128 .f32) (A7 : FVec Ideal S128x128 .f32) (A8 : FVec Ideal S128 .f32) : FVec Ideal S8192x128 .f32 :=
  addf (Host.dotGeneral dot_S8192x128_S128x128_S8192x128_1_0_0_1_n_n none A1 A7) (broadcastInDim S8192x128 ![0, 1] bcast_S1x128_S8192x128_0_1 (broadcastInDim S1x128 ![1] bcast_S128_S1x128_1 A8))

def predOf (A1 : FVec Ideal S8192x128 .f32) (A7 : FVec Ideal S128x128 .f32) (A8 : FVec Ideal S128 .f32) (A9 : FVec Ideal S128x128 .f32) (A10 : FVec Ideal S128 .f32)
    (A11 : FVec Ideal S128x15 .f32) : FVec Ideal S8192x15 .f32 :=
  Host.dotGeneral dot_S8192x128_S128x15_S8192x15_1_0_0_1_n_n none (hidOf (hidOf A1 A7 A8) A9 A10) A11

theorem hidOf_apply (A1 A7 A8) (i : Fin 8192) (k : Fin 128) : hidOf A1 A7 A8 (ix2 i k) = hidden A1 A7 A8 i k := by
  refine Eq.trans ?_ (show (∑ l : Fin 128, A1 (ix2 i l) * A7 (ix2 l k)) + A8 (ix1 k) = hidden A1 A7 A8 i k from rfl)
  pointwise [hidOf]

theorem predOf_apply (A1 A7 A8 A9 A10 A11) (i : Fin 8192) (q : Fin 15) : predOf A1 A7 A8 A9 A10 A11 (ix2 i q) = pred A1 A7 A8 A9 A10 A11 i q := by
  refine Eq.trans ?_ (show ∑ p : Fin 128, ((∑ k : Fin 128, ((∑ l : Fin 128, A1 (ix2 i l) * A7 (ix2 l k)) + A8 (ix1 k)) * A9 (ix2 k p)) + A10 (ix1 p)) * A11 (ix2 p q) = pred A1 A7 A8 A9 A10 A11 i q from rfl)
  pointwise [predOf, hidOf]

/-! ## The three results -/

theorem out0_apply (A1 : FVec Ideal S8192x128 .f32) (A3 : FVec Ideal S128x10 .f32) (A4 : FVec Ideal S10 .f32) (i : Fin 8192) (c : Fin 10) :
    addf (Host.dotGeneral dot_S8192x128_S128x10_S8192x10_1_0_0_1_n_n none A1 A3) (broadcastInDim S8192x10 ![0, 1] bcast_S1x10_S8192x10_0_1 (broadcastInDim S1x10 ![1] bcast_S10_S1x10_1 A4)) (ix2 i c)
      = (∑ k : Fin 128, A1 (ix2 i k) * A3 (ix2 k c)) + A4 (ix1 c) := by
  pointwise

theorem out1_apply (A1 A7 A8) (A5 : FVec Ideal S128x10 .f32) (A6 : FVec Ideal S10 .f32) (i : Fin 8192) (c : Fin 10) :
    addf (Host.dotGeneral dot_S8192x128_S128x10_S8192x10_1_0_0_1_n_n none (hidOf A1 A7 A8) A5) (broadcastInDim S8192x10 ![0, 1] bcast_S1x10_S8192x10_0_1 (broadcastInDim S1x10 ![1] bcast_S10_S1x10_1 A6)) (ix2 i c)
      = (∑ k : Fin 128, hidden A1 A7 A8 i k * A5 (ix2 k c)) + A6 (ix1 c) := by
  refine (out0_apply (hidOf A1 A7 A8) A5 A6 i c).trans ?_
  simp only [hidOf_apply]

def colourOf (P : FVec Ideal S8192x15 .f32) (A2 : FVec Ideal S8192x3 .f32) : FVec Ideal S_ .f32 :=
  Host.divf (Host.reduceAdd (Host.absf (subf (extractStridedSlice S8192x3 ![0, 0] P slices_S8192x15_S8192x3_0_0) A2)) (constant S_ .f32 0x00000000#32) reducesTo_S8192x3_S_d0_1 h_S_) (constant S_ .f32 0x46C00000#32)

theorem colourOf_apply (P : FVec Ideal S8192x15 .f32) (A2 : FVec Ideal S8192x3 .f32) (z : S_.Idx) :
    colourOf P A2 z = Ideal.div (∑ i : Fin 8192, ∑ c : Fin 3, FloatOps.absf (F := Ideal) (φ := .f32) (P (ix2 i ⟨c.val, by have := c.isLt; omega⟩) - A2 (ix2 i c))) (Ideal.ofBits .f32 0x46C00000#32) := by
  pointwise [colourOf]

def placeOf (I : IVec S8192x12 32) : IVec S8192x12x1 32 :=
  broadcastInDim S8192x12x1 ![0, 1] bcast_S8192x12_S8192x12x1_0_1 (select (cmpi .slt I (broadcastInDim S8192x12 ![] bcast_S_S8192x12 (constantI S_ 32 0#32))) (addi I (broadcastInDim S8192x12 ![] bcast_S_S8192x12 (constantI S_ 32 8192#32))) I)

theorem placeOf_apply (I : IVec S8192x12 32) (i : Fin 8192) (c : Fin 12) (k : Fin 8192) (h : I (ix2 i c) = BitVec.ofNat 32 k.val) :
    placeOf I (ix3 i c 0) = BitVec.ofNat 32 k.val := by
  have e : placeOf I (ix3 i c 0) = Scalar.select (IntOp.cmpi .slt (I (ix2 i c)) 0#32) (IntOp.addi (I (ix2 i c)) 8192#32) (I (ix2 i c)) := by
    pointwise [placeOf]
  have := k.isLt
  have e3 : (BitVec.ofNat 32 k.val).toInt = k.val := by
    rw [BitVec.toInt_ofNat', Int.bmod_eq_of_le] <;> omega
  have e4 : IntOp.cmpi .slt (BitVec.ofNat 32 k.val) 0#32 = 0#1 := by
    have h0 : ¬ ((k.val : ℤ) < 0) := by omega
    simp [IntOp.cmpi, BitVec.slt_eq_decide, e3, h0]
  rw [e, h, e4]
  rfl

def edgeOf (P : FVec Ideal S8192x15 .f32) (T : FVec Ideal S8192x12 .f32) (G : FVec Ideal S8192 .f32) : FVec Ideal S_ .f32 :=
  Host.divf (Host.reduceAdd (Host.absf (subf (subf T (broadcastInDim S8192x12 ![0, 1] bcast_S8192x1_S8192x12_0_1 (broadcastInDim S8192x1 ![0] bcast_S8192_S8192x1_0 G))) (extractStridedSlice S8192x12 ![0, 3] P slices_S8192x15_S8192x12_0_3))) (constant S_ .f32 0x00000000#32) reducesTo_S8192x12_S_d0_1 h_S_) (constant S_ .f32 0x47C00000#32)

theorem edgeOf_apply (P : FVec Ideal S8192x15 .f32) (T : FVec Ideal S8192x12 .f32) (G : FVec Ideal S8192 .f32) (z : S_.Idx) :
    edgeOf P T G z = Ideal.div (∑ i : Fin 8192, ∑ c : Fin 12, FloatOps.absf (F := Ideal) (φ := .f32) (T (ix2 i c) - G (ix1 i) - P (ix2 i ⟨3 + c.val, by have := c.isLt; omega⟩))) (Ideal.ofBits .f32 0x47C00000#32) := by
  pointwise [edgeOf]

theorem loss_apply (A0 A2 : FVec Ideal S8192x3 .f32) (A1 A7 A8 A9 A10 A11) (z : S_.Idx) :
    addf (colourOf (predOf A1 A7 A8 A9 A10 A11) A2)
      (mulf (constant S_ .f32 0x3DCCCCCD#32) (edgeOf (predOf A1 A7 A8 A9 A10 A11)
        (Host.gather gather_S8192_S8192x12x1_S8192x12_n_0_n_n_0_2_1 (grayOf A2) (placeOf (Host.topK S8192x12 1 (IntOp.cmpi .sgt) (nearOf A0) sliceFits_S8192x8192_S8192x12).2))
        (grayOf A2))) z
      = loss A0 A2 (pred A1 A7 A8 A9 A10 A11) := by
  show colourOf _ _ z + Ideal.ofBits .f32 0x3DCCCCCD#32 * edgeOf _ _ _ z = _
  rw [colourOf_apply, edgeOf_apply]
  have ht : ∀ (i : Fin 8192) (c : Fin 12), Host.gather gather_S8192_S8192x12x1_S8192x12_n_0_n_n_0_2_1 (grayOf A2) (placeOf (Host.topK S8192x12 1 (IntOp.cmpi .sgt) (nearOf A0) sliceFits_S8192x8192_S8192x12).2) (ix2 i c)
      = gray A2 (nbr A0 i c) := by
    intro i c
    refine (take_apply _ _ i c (nbr A0 i c) (placeOf_apply _ i c _ ((topK_apply _ i c).trans ?_))).trans (grayOf_apply A2 _)
    have : (fun j => nearOf A0 (ix2 i j)) = near A0 i := funext fun j => nearOf_apply A0 i j
    rw [this]
    rfl
  simp only [ht, grayOf_apply, predOf_apply]
  rfl

theorem res_main_v53_apply (m : (ℓ : Loc nD τ sig) → Buf (Elt Ideal) ℓ) (c : Dev nD) (z : S_.Idx) :
    (Cert.ReferenceIdeal.Value.res_main_v53 m c : FVec Ideal S_ .f32) z
      = loss (m ((c.tc : Thread nD τ).loc main_arg0) : FVec Ideal S8192x3 .f32) (m ((c.tc : Thread nD τ).loc main_arg2) : FVec Ideal S8192x3 .f32)
        (pred (m ((c.tc : Thread nD τ).loc main_arg1) : FVec Ideal S8192x128 .f32) (m ((c.tc : Thread nD τ).loc main_arg7) : FVec Ideal S128x128 .f32)
          (m ((c.tc : Thread nD τ).loc main_arg8) : FVec Ideal S128 .f32) (m ((c.tc : Thread nD τ).loc main_arg9) : FVec Ideal S128x128 .f32)
          (m ((c.tc : Thread nD τ).loc main_arg10) : FVec Ideal S128 .f32) (m ((c.tc : Thread nD τ).loc main_arg11) : FVec Ideal S128x15 .f32)) :=
  loss_apply _ _ _ _ _ _ _ _ z

end Cert.Proof.Ref

end
-- ==== Proof.Grid.lean ====
/-
  Points on a grid of eighths in a box of side 36: the squared distances are whole 64ths below 4095, so the ranking words
  are the distances themselves, and to rank by the ones is to rank by the others.
-/
module

public import proofs.«01_k».proof.Proof.Maths

@[expose] public section

noncomputable section

namespace Cert.Proof

open Idealize.ShloMosaic Idealize.ShloMosaic.Tactic

/-- Every coordinate is a whole number of eighths between 0 and 36. -/
def OnGrid (A : Arr2 8192 3) : Prop :=
  ∃ n : Fin 8192 → Fin 3 → ℤ, ∀ i k, A (ix2 i k) = (((n i k : ℝ) / 8 : ℝ) : EReal) ∧ 0 ≤ n i k ∧ n i k ≤ 288

theorem OnGrid.finite {A : Arr2 8192 3} (h : OnGrid A) : Finite A := by
  obtain ⟨n, hn⟩ := h
  exact ⟨fun i k => (n i k : ℝ) / 8, fun i k => (hn i k).1⟩

/-- The squared distance of two points in 64ths. -/
def sq64 (n : Fin 8192 → Fin 3 → ℤ) (i j : Fin 8192) : ℤ := (n i 0 - n j 0) ^ 2 + (n i 1 - n j 1) ^ 2 + (n i 2 - n j 2) ^ 2

/-- A whole number of 64ths in range is its own ranking word. -/
theorem rankWord_grid (z : ℤ) (h0 : -262080 ≤ z) (h1 : z ≤ 0) : (rankWord (((z : ℝ) / 64 : ℝ) : EReal)).toInt = z := by
  have hz1 : (z : ℝ) ≤ 0 := by exact_mod_cast h1
  have hz0 : (-262080 : ℝ) ≤ (z : ℝ) := by exact_mod_cast h0
  rw [rankWord_eq _ (by linarith), max_eq_left (by linarith), div_mul_cancel₀ _ (by norm_num), Int.ceil_intCast,
    BitVec.toInt_ofInt_eq_self (by norm_num) (by norm_num; omega) (by norm_num; omega)]

section
variable (A : Arr2 8192 3) (n : Fin 8192 → Fin 3 → ℤ) (hn : ∀ i k, A (ix2 i k) = (((n i k : ℝ) / 8 : ℝ) : EReal) ∧ 0 ≤ n i k ∧ n i k ≤ 288)
include hn

theorem minusDist_grid (i j : Fin 8192) : minusDist A i j = ((((-sq64 n i j : ℤ) : ℝ) / 64 : ℝ) : EReal) := by
  rw [minusDist_real A (fun i k => (n i k : ℝ) / 8) fun i k => (hn i k).1]
  refine congrArg Real.toEReal ?_
  unfold sq64
  push_cast
  ring

theorem sq64_range (i j : Fin 8192) : 0 ≤ sq64 n i j ∧ sq64 n i j ≤ 262080 := by
  have b : ∀ k, (n i k - n j k) ^ 2 ≤ 82944 := fun k => by
    have h1 := (hn i k).2
    have h2 := (hn j k).2
    have e : |n i k - n j k| ≤ 288 := abs_le.mpr ⟨by omega, by omega⟩
    have := sq_le_sq' (abs_le.mp e).1 (abs_le.mp e).2
    omega
  have h0 := b 0
  have h1 := b 1
  have h2 := b 2
  unfold sq64
  constructor
  · positivity
  · omega

theorem near_grid (i j : Fin 8192) : (near A i j).toInt = -sq64 n i j := by
  have h := sq64_range A n hn i j
  unfold near
  rw [minusDist_grid A n hn]
  exact rankWord_grid _ (by omega) (by omega)

end

/-- On the grid, one point is nearer than another by the distances just if it is by the ranking words. -/
theorem ranks_grid (A : Arr2 8192 3) (h : OnGrid A) (i a b : Fin 8192) :
    FloatOps.cmpfTotal (F := Ideal) (φ := .f32) .gt (minusDist A i a) (minusDist A i b) = IntOp.cmpi .sgt (near A i a) (near A i b) := by
  obtain ⟨n, hn⟩ := h
  show BitVec.ofBool (decide (minusDist A i b < minusDist A i a)) = BitVec.ofBool (decide ((near A i b).toInt < (near A i a).toInt))
  rw [near_grid A n hn, near_grid A n hn, minusDist_grid A n hn, minusDist_grid A n hn]
  refine congrArg BitVec.ofBool (decide_eq_decide.mpr ?_)
  rw [EReal.coe_lt_coe_iff, div_lt_div_iff_of_pos_right (by norm_num), Int.cast_lt]

end Cert.Proof

end
-- ==== Proof.ExactMath.lean ====
/-
  The reference that ranks by the distances themselves: on the grid its ranking is the words' ranking, so that its loss is the same.
-/
module

public import proofs.«01_k».proof.Defs
public import proofs.«01_k».proof.Proof.Gen.Pre_on_grid
public import proofs.«01_k».proof.Proof.Gen.ExactIdeal.Run
public import proofs.«01_k».proof.Proof.RefMath
public import proofs.«01_k».proof.Proof.Grid
public import Idealize.ShloMosaic.Lib.ReduceAll
public import Idealize.ShloMosaic.Lib.Claim
public import Idealize.ShloMosaic.Lib.SparseCore

@[expose] public section

set_option maxRecDepth 16384

noncomputable section

namespace Cert.Proof

open Idealize.ShloMosaic Idealize.ShloMosaic.Tactic Idealize.SL.Sem

/-- The frame: the program declares no semaphore. -/
theorem frame_exact : Cert.quiescent_ExactIdeal := by
  intro m ρ _
  exact (θ_run Cert.ExactIdeal.defs _ _).mono (fun r h => ⟨fun c => (h c).2.2.2, Idealize.ShloMosaic.sem_eq_zero_of_no_sems (by decide) r.2⟩)
    (Cert.ExactIdeal.Value.run (F := Ideal) m ρ)

namespace Ref

open Cert.ReferenceIdeal Cert.ReferenceIdeal.Gen

/-- Minus the squared distances, as the program makes them. -/
def distOf (A0 : FVec Ideal S8192x3 .f32) : FVec Ideal S8192x8192 .f32 :=
  Host.negf (addf (subf (broadcastInDim S8192x8192 ![0, 1] bcast_S8192x1_S8192x8192_0_1 (broadcastInDim S8192x1 ![0] bcast_S8192_S8192x1_0 (Host.reduceAdd (mulf A0 A0) (constant S_ .f32 0x00000000#32) reducesTo_S8192x3_S8192_d1 h_S_))) (mulf (broadcastInDim S8192x8192 ![] bcast_S_S8192x8192 (constant S_ .f32 0x40000000#32)) (Host.dotGeneral dot_S8192x3_S3x8192_S8192x8192_1_0_0_1_n_n none A0 (transpose S3x8192 [1, 0] A0 transposes_S8192x3_S3x8192_1_0)))) (broadcastInDim S8192x8192 ![0, 1] bcast_S1x8192_S8192x8192_0_1 (broadcastInDim S1x8192 ![1] bcast_S8192_S1x8192_1 (Host.reduceAdd (mulf A0 A0) (constant S_ .f32 0x00000000#32) reducesTo_S8192x3_S8192_d1 h_S_))))

theorem distOf_apply (A0 : FVec Ideal S8192x3 .f32) (i j : Fin 8192) : distOf A0 (ix2 i j) = minusDist A0 i j := by
  refine Eq.trans ?_ (show -(∑ x : Fin 3, A0 (ix2 i x) * A0 (ix2 i x) - Ideal.ofBits .f32 0x40000000#32 * ∑ x : Fin 3, A0 (ix2 i x) * A0 (ix2 j x) + ∑ x : Fin 3, A0 (ix2 j x) * A0 (ix2 j x)) = minusDist A0 i j from rfl)
  pointwise [distOf]

/-- On the grid the `c`-th nearest by the distances is the `c`-th nearest by the words. -/
theorem ranking_entry (A0 : FVec Ideal S8192x3 .f32) (h : OnGrid A0) (i : Fin 8192) (c : Fin 12) :
    (Host.topK S8192x12 1 (FloatOps.cmpfTotal (F := Ideal) (φ := .f32) .gt) (distOf A0) sliceFits_S8192x8192_S8192x12).2 (ix2 i c)
      = (Host.topK S8192x12 1 (IntOp.cmpi .sgt) (nearOf A0) sliceFits_S8192x8192_S8192x12).2 (ix2 i c) := by
  refine (topK_row _ (by omega) (distOf A0) _ i c).trans (Eq.trans ?_ (topK_row _ (by omega) (nearOf A0) _ i c).symm)
  refine congrArg (fun R : Fin 8192 → Fin 8192 → Bool => BitVec.ofNat 32 (sortedFrom R ⟨c.val, _⟩).val) (funext fun a => funext fun b => ?_)
  refine congrArg (fun w : BitVec 1 => w == 1#1) ?_
  rw [distOf_apply, distOf_apply, nearOf_apply, nearOf_apply]
  exact ranks_grid A0 h i a b

/-- On the grid the twelve nearest by the distances are the twelve nearest by the words. -/
theorem ranking_exact (A0 : FVec Ideal S8192x3 .f32) (h : OnGrid A0) :
    (Host.topK S8192x12 1 (FloatOps.cmpfTotal (F := Ideal) (φ := .f32) .gt) (distOf A0) sliceFits_S8192x8192_S8192x12).2
      = (Host.topK S8192x12 1 (IntOp.cmpi .sgt) (nearOf A0) sliceFits_S8192x8192_S8192x12).2 := by
  funext q
  rw [eq_ix2 q]
  exact ranking_entry A0 h (q 0) (q 1)

/-- The loss of the ranking by the distances, on the grid. -/
theorem loss_exact (A0 A2 : FVec Ideal S8192x3 .f32) (h : OnGrid A0) (A1 A7 A8 A9 A10 A11) (z : S_.Idx) :
    addf (colourOf (predOf A1 A7 A8 A9 A10 A11) A2)
      (mulf (constant S_ .f32 0x3DCCCCCD#32) (edgeOf (predOf A1 A7 A8 A9 A10 A11)
        (Host.gather gather_S8192_S8192x12x1_S8192x12_n_0_n_n_0_2_1 (grayOf A2)
          (placeOf (Host.topK S8192x12 1 (FloatOps.cmpfTotal (F := Ideal) (φ := .f32) .gt) (distOf A0) sliceFits_S8192x8192_S8192x12).2))
        (grayOf A2))) z
      = loss A0 A2 (pred A1 A7 A8 A9 A10 A11) := by
  rw [ranking_exact A0 h]
  exact loss_apply A0 A2 A1 A7 A8 A9 A10 A11 z

end Ref

theorem res_main_v48_apply (m : (ℓ : Loc Cert.ExactIdeal.nD Cert.ExactIdeal.τ Cert.ExactIdeal.sig) → Buf (Elt Ideal) ℓ) (c : Dev Cert.ExactIdeal.nD)
    (h : OnGrid (m ((c.tc : Thread Cert.ExactIdeal.nD Cert.ExactIdeal.τ).loc Cert.ExactIdeal.main_arg0) : Arr2 8192 3)) (z : Cert.ExactIdeal.S_.Idx) :
    (Cert.ExactIdeal.Value.res_main_v48 m c : FVec Ideal Cert.ExactIdeal.S_ .f32) z
      = loss (m ((c.tc : Thread Cert.ExactIdeal.nD Cert.ExactIdeal.τ).loc Cert.ExactIdeal.main_arg0) : Arr2 8192 3)
        (m ((c.tc : Thread Cert.ExactIdeal.nD Cert.ExactIdeal.τ).loc Cert.ExactIdeal.main_arg2) : Arr2 8192 3)
        (pred (m ((c.tc : Thread Cert.ExactIdeal.nD Cert.ExactIdeal.τ).loc Cert.ExactIdeal.main_arg1) : Arr2 8192 128)
          (m ((c.tc : Thread Cert.ExactIdeal.nD Cert.ExactIdeal.τ).loc Cert.ExactIdeal.main_arg7) : Arr2 128 128)
          (m ((c.tc : Thread Cert.ExactIdeal.nD Cert.ExactIdeal.τ).loc Cert.ExactIdeal.main_arg8) : Arr1 128)
          (m ((c.tc : Thread Cert.ExactIdeal.nD Cert.ExactIdeal.τ).loc Cert.ExactIdeal.main_arg9) : Arr2 128 128)
          (m ((c.tc : Thread Cert.ExactIdeal.nD Cert.ExactIdeal.τ).loc Cert.ExactIdeal.main_arg10) : Arr1 128)
          (m ((c.tc : Thread Cert.ExactIdeal.nD Cert.ExactIdeal.τ).loc Cert.ExactIdeal.main_arg11) : Arr2 128 15)) :=
  Ref.loss_exact _ _ h _ _ _ _ _ _ z

/-! ## What the precondition gives -/

/-- A value whose eighfold is whole and which lies between 0 and 36 is a whole number of eighths. -/
theorem eighths_of (x : EReal)
    (h8 : FloatOps.cmpf (F := Ideal) (φ := .f32) .oeq (FloatOps.hostUnary (F := Ideal) (φ := .f32) .floor (x * Ideal.ofBits .f32 0x41000000#32)) (x * Ideal.ofBits .f32 0x41000000#32) = 1#1)
    (h0 : FloatOps.cmpf (F := Ideal) (φ := .f32) .oge x (Ideal.ofBits .f32 0x00000000#32) = 1#1)
    (h1 : FloatOps.cmpf (F := Ideal) (φ := .f32) .ole x (Ideal.ofBits .f32 0x42100000#32) = 1#1) :
    ∃ n : ℤ, x = (((n : ℝ) / 8 : ℝ) : EReal) ∧ 0 ≤ n ∧ n ≤ 288 := by
  have c8 : Ideal.ofBits .f32 0x41000000#32 = ((8 : ℝ) : EReal) := by
    simp [Ideal.ofBits, Ideal.ieee]; rw [← EReal.coe_mul]; norm_num
  have c36 : Ideal.ofBits .f32 0x42100000#32 = ((36 : ℝ) : EReal) := by
    simp [Ideal.ofBits, Ideal.ieee]; rw [← EReal.coe_mul]; norm_num
  have g0 : Ideal.cmp .oge x (Ideal.ofBits .f32 0x00000000#32) = 1#1 := h0
  have g1 : Ideal.cmp .ole x (Ideal.ofBits .f32 0x42100000#32) = 1#1 := h1
  have g8 : Ideal.cmp .oeq (Ideal.liftRound Int.floor (x * Ideal.ofBits .f32 0x41000000#32)) (x * Ideal.ofBits .f32 0x41000000#32) = 1#1 := h8
  rw [Ideal.ofBits_zero_f32] at g0
  rw [c36] at g1
  rw [c8] at g8
  have k0 : 0 ≤ x := by
    by_contra hn
    unfold Ideal.cmp at g0
    simp [hn] at g0
  have k1 : x ≤ ((36 : ℝ) : EReal) := by
    by_contra hn
    unfold Ideal.cmp at g1
    simp [hn] at g1
  have k8 : Ideal.liftRound Int.floor (x * ((8 : ℝ) : EReal)) = x * ((8 : ℝ) : EReal) := by
    by_contra hn
    unfold Ideal.cmp at g8
    simp [hn] at g8
  have hx : x = ((x.toReal : ℝ) : EReal) :=
    (EReal.coe_toReal (ne_top_of_le_ne_top (EReal.coe_ne_top _) k1) (ne_bot_of_le_ne_bot EReal.zero_ne_bot k0)).symm
  generalize x.toReal = r at hx
  subst hx
  have r0 : 0 ≤ r := by exact_mod_cast k0
  have r1 : r ≤ 36 := by exact_mod_cast k1
  rw [← EReal.coe_mul] at k8
  have r8 : ((⌊r * 8⌋ : ℤ) : ℝ) = r * 8 := EReal.coe_injective k8
  refine ⟨⌊r * 8⌋, ?_, Int.floor_nonneg.mpr (by linarith), ?_⟩
  · rw [r8]; refine congrArg Real.toEReal (by ring)
  · have : ((⌊r * 8⌋ : ℤ) : ℝ) ≤ ((288 : ℤ) : ℝ) := by rw [r8]; push_cast; linarith
    exact_mod_cast this

theorem onGrid_of_fn (A0 : FVec Ideal Cert.Pre_on_grid.S8192x3 .f32) (A1 A2 A3 A4 A5 A6 A7 A8 A9 A10 A11) (z : Cert.Pre_on_grid.S_.Idx)
    (e : Cert.Pre_on_grid.fn (F := Ideal) A0 A1 A2 A3 A4 A5 A6 A7 A8 A9 A10 A11 z = 1#1) : OnGrid A0 := by
  haveI : Subsingleton Cert.Pre_on_grid.S_.Idx := ⟨fun a b => funext fun q => q.elim0⟩
  have all : ∀ (i : Fin 8192) (k : Fin 3), ∃ n : ℤ, A0 (ix2 i k) = (((n : ℝ) / 8 : ℝ) : EReal) ∧ 0 ≤ n ∧ n ≤ 288 := fun i k => by
    have e1 := Host.reduce_andi_all _ _ _ _ z e (ix2 i k)
    have e2 := IntOp.andi_eq_one.mp e1
    have e3 := IntOp.andi_eq_one.mp e2.1
    exact eighths_of _ e3.1 e3.2 e2.2
  choose n hn using all
  exact ⟨n, hn⟩

end Cert.Proof

end
-- ==== Proof.RoundsRun.lean ====
/-
  The kernel's twelve rounds on a block of keys: column `k` of the indices it records is the `k`-th nearest point of the row.
-/
module

public import proofs.«01_k».proof.Proof.Frames
public import proofs.«01_k».proof.Proof.Rounds

@[expose] public section

set_option maxRecDepth 16384

noncomputable section

namespace Cert.Proof

open Cert.KernelIdeal Cert.KernelIdeal.Gen
open Idealize.ShloMosaic Idealize.ShloMosaic.Tactic

variable {F : FTy → Type} [FloatOps F]

/-- A row's greatest key below the word `a` carries. -/
theorem pay4_apply (a : IVec S128x1 32) (X : Vec F S128x8192 .i32) (r : Fin 128) :
    k0_pay4 (F := F) a X (ix2 r (0 : Fin 1))
      = (Finset.univ.filter fun i : S128x8192.Idx => reduces_S128x8192_S128.drop i = ix1 r).fold (IKind.maxsi).op 2147483648#32
          (fun i => Scalar.select (IntOp.cmpi .slt (X i) (a (ix2 r (0 : Fin 1)))) (X i) 2147483648#32) := by
  have hc : k0_pay4 (F := F) a X (ix2 r (0 : Fin 1))
      = multiReductionI .maxsi [1] S128 (select (cmpi .slt X (broadcastTo S128x8192 a broadcasts_S128x1_S128x8192)) X (broadcast S128x8192 2147483648#32))
          2147483648#32 reduces_S128x8192_S128 rfl (ix1 r) := by
    unfold k0_pay4
    refine (shapeCast_apply _ _ _ (ix1 r) ?_)
    rfl
  refine hc.trans ((multiReductionI_eq_fold _ _ _ _ _ _).trans ?_)
  refine Finset.fold_congr fun i hi => ?_
  have hr : i 0 = r := by
    have h := (Finset.mem_filter.mp hi).2
    exact congrFun h 0
  have hb := broadcastTo_apply a broadcasts_S128x1_S128x8192 i (ix2 r (0 : Fin 1)) (by
    intro b; match b with | ⟨0, _⟩ => exact congrArg Fin.val hr.symm | ⟨1, _⟩ => rfl)
  show Scalar.select (IntOp.cmpi .slt (X i) (broadcastTo S128x8192 a broadcasts_S128x1_S128x8192 i)) (X i) 2147483648#32 = _
  rw [hb]

theorem stepRound_fst (X : Vec F S128x8192 .i32) (k : Fin k0_t1_loop.trips) (p : IVec S128x1 32 × IVec S128x12 32) :
    (stepRound (F := F) X k p).1 = k0_pay4 (F := F) p.1 X := by rw [stepRound]
theorem stepRound_snd (X : Vec F S128x8192 .i32) (k : Fin k0_t1_loop.trips) (p : IVec S128x1 32 × IVec S128x12 32) :
    (stepRound (F := F) X k p).2 = k0_pay5 (F := F) k p.1 p.2 X := by rw [stepRound]

section Row

variable (X : Vec F S128x8192 .i32) (r : Fin 128) (near : Fin 8192 → BitVec 32)
    (hX : ∀ j, X (ix2 r j) = keyOf (near j) j)
    (h0 : ∀ j, -262080 ≤ (near j).toInt) (h1 : ∀ j, (near j).toInt ≤ 0)
include hX h0 h1

theorem pay4_nearest (a : IVec S128x1 32) (k : Fin 8192)
    (hlt : (keyOf (near (nearest near k)) (nearest near k)).toInt < (a (ix2 r (0 : Fin 1))).toInt)
    (hge : ∀ i : Fin 8192, i < k → (a (ix2 r (0 : Fin 1))).toInt ≤ (keyOf (near (nearest near i)) (nearest near i)).toInt) :
    k0_pay4 (F := F) a X (ix2 r (0 : Fin 1)) = keyOf (near (nearest near k)) (nearest near k) := by
  rw [pay4_apply, ← round_max near h0 h1 (Finset.univ.filter fun i : S128x8192.Idx => reduces_S128x8192_S128.drop i = ix1 r)
    (fun i => i 1) (fun j => ⟨ix2 r j, Finset.mem_filter.mpr ⟨Finset.mem_univ _, ?_⟩, rfl⟩) _ k hlt hge]
  · refine Finset.fold_congr fun i hi => ?_
    have hr : i 0 = r := congrFun (Finset.mem_filter.mp hi).2 0
    have e : X i = keyOf (near (i 1)) (i 1) := by
      have e' : X i = X (ix2 r (i 1)) := by subst hr; exact congrArg X (eq_ix2 i)
      exact e'.trans (hX (i 1))
    exact congrArg (fun x => Scalar.select (IntOp.cmpi .slt x (a (ix2 r (0 : Fin 1)))) x 2147483648#32) e
  · funext b; match b with | ⟨0, _⟩ => rfl

/-- Before round `k` the carried word is the `k`-th greatest key (none yet: the greatest word), and the columns below `k` hold the
    nearest points' numbers. -/
theorem rounds_spec : ∀ (k : ℕ), k ≤ 12 →
    (k = 0 ∧ (roundsAt (F := F) X k).1 (ix2 r (0 : Fin 1)) = 2147483647#32
      ∨ ∃ p : Fin 8192, p.val + 1 = k ∧ (roundsAt (F := F) X k).1 (ix2 r (0 : Fin 1)) = keyOf (near (nearest near p)) (nearest near p))
    ∧ ∀ c : Fin 12, c.val < k → (roundsAt (F := F) X k).2 (ix2 r c) = BitVec.ofNat 32 (nearest near ⟨c.val, by have := c.isLt; omega⟩).val
  | 0, _ => ⟨Or.inl ⟨rfl, rfl⟩, fun c h => absurd h (Nat.not_lt_zero _)⟩
  | k + 1, hk => by
    have ht : k < k0_t1_loop.trips := lt_of_lt_of_le hk (by decide)
    have hstep := roundsAt_succ (F := F) X ⟨k, ht⟩
    simp only at hstep
    obtain ⟨hm, hc⟩ := rounds_spec k (by omega)
    have hp4 : k0_pay4 (F := F) (roundsAt (F := F) X k).1 X (ix2 r (0 : Fin 1))
        = keyOf (near (nearest near ⟨k, by omega⟩)) (nearest near ⟨k, by omega⟩) := by
      refine pay4_nearest X r near hX h0 h1 _ ⟨k, by omega⟩ ?_ ?_
      · rcases hm with ⟨_, e⟩ | ⟨p, hp, e⟩
        · rw [e]
          have h2 := toInt_keyOf (near (nearest near ⟨k, by omega⟩)) (nearest near ⟨k, by omega⟩) (h0 _) (h1 _)
          have h3 := h1 (nearest near ⟨k, by omega⟩)
          have e' : (2147483647#32 : BitVec 32).toInt = 2147483647 := by decide
          rw [e']
          omega
        · rw [e]
          exact key_nearest_lt near h0 h1 p ⟨k, by omega⟩ (by show p.val < k; omega)
      · intro i hi
        rcases hm with ⟨h, _⟩ | ⟨p, hp, e⟩
        · exact absurd (show i.val < k from hi) (by omega)
        · rw [e]
          have hi' : i.val < k := hi
          rcases eq_or_lt_of_le (show i ≤ p by show i.val ≤ p.val; omega) with h | h
          · rw [h]
          · exact le_of_lt (key_nearest_lt near h0 h1 i p h)
    rw [hstep, stepRound_fst, stepRound_snd]
    refine ⟨Or.inr ⟨⟨k, by omega⟩, rfl, hp4⟩, fun c hck => ?_⟩
    rw [pay5_apply]
    by_cases h : c.val = k
    · rw [if_pos h, hp4, keyOf_low]
      have : (⟨c.val, by have := c.isLt; omega⟩ : Fin 8192) = ⟨k, by omega⟩ := Fin.ext h
      rw [this]
    · rw [if_neg h]
      exact hc c (by omega)

/-- After the rounds column `c` holds the number of the `c`-th nearest point. -/
theorem rounds_nearest (c : Fin 12) :
    (roundsAt (F := F) X k0_t1_loop.trips).2 (ix2 r c) = BitVec.ofNat 32 (nearest near ⟨c.val, by have := c.isLt; omega⟩).val := by
  have e : k0_t1_loop.trips = 12 := by decide
  rw [e]
  exact (rounds_spec X r near hX h0 h1 12 (le_refl _)).2 c c.isLt

end Row

end Cert.Proof

end
-- ==== Proof.ValueTc.lean ====
/-
  What the TensorCore's kernel leaves, in the problem's mathematics: the two logits, the neighbours' numbers, the edges' targets, the greys,
  and the blocks' colour sums.
-/
module

public import proofs.«01_k».proof.Proof.RoundsRun
public import proofs.«01_k».proof.Proof.Maths

@[expose] public section

set_option maxRecDepth 16384

noncomputable section

namespace Cert.Proof

open Cert.KernelIdeal Cert.KernelIdeal.Gen
open Idealize.ShloMosaic Idealize.ShloMosaic.Tactic

/-! ## The payloads, entry by entry -/

theorem pay6_apply (x : Vec Ideal S128x128 .f32) (w : Vec Ideal S128x10 .f32) (b : Vec Ideal S1x10 .f32) (r : Fin 128) (c : Fin 10) :
    k0_pay6 (F := Ideal) x w b (ix2 r c) = (∑ k : Fin 128, x (ix2 r k) * w (ix2 k c)) + b (ix2 0 c) := by
  pointwise [k0_pay6]

theorem pay8_apply (x : Vec Ideal S128x128 .f32) (w : Vec Ideal S128x128 .f32) (b : Vec Ideal S1x128 .f32) (w2 : Vec Ideal S128x10 .f32) (b2 : Vec Ideal S1x10 .f32)
    (r : Fin 128) (c : Fin 10) :
    k0_pay8 (F := Ideal) x w b w2 b2 (ix2 r c)
      = (∑ k : Fin 128, ((∑ l : Fin 128, x (ix2 r l) * w (ix2 l k)) + b (ix2 0 k)) * w2 (ix2 k c)) + b2 (ix2 0 c) := by
  pointwise [k0_pay8, k0_pay7]

theorem pay11_apply (x3 : Vec Ideal S128x3 .f32) (r : Fin 128) :
    k0_pay11 (F := Ideal) x3 (ix2 r 0)
      = x3 (ix2 r 0) * Ideal.ofBits .f32 0x3E991687#32 + x3 (ix2 r 1) * Ideal.ofBits .f32 0x3F1645A2#32 + x3 (ix2 r 2) * Ideal.ofBits .f32 0x3DE978D5#32 := by
  pointwise [k0_pay11]

theorem tOf_apply (x2 x3 x8 x9 x10 x11 x12) (r : Fin 128) (c : Fin 12) :
    tOf (F := Ideal) x2 x3 x8 x9 x10 x11 x12 (ix2 r c)
      = x3 (ix2 r 0) * Ideal.ofBits .f32 0x3E991687#32 + x3 (ix2 r 1) * Ideal.ofBits .f32 0x3F1645A2#32 + x3 (ix2 r 2) * Ideal.ofBits .f32 0x3DE978D5#32
        + ∑ p : Fin 128, ((∑ k : Fin 128, ((∑ l : Fin 128, x2 (ix2 r l) * x8 (ix2 l k)) + x9 (ix2 0 k)) * x10 (ix2 k p)) + x11 (ix2 0 p))
            * x12 (ix2 p ⟨3 + c.val, by have := c.isLt; omega⟩) := by
  pointwise [tOf, hidOf, k0_pay12, k0_pay11, k0_pay10, k0_pay9, k0_pay7]

theorem dsumOf_apply (x2 x3 x8 x9 x10 x11 x12) (c : Fin 128) :
    dsumOf (F := Ideal) x2 x3 x8 x9 x10 x11 x12 (ix3 0 0 c)
      = ∑ r : Fin 128, ∑ q : Fin 3, FloatOps.absf (F := Ideal) (φ := .f32)
          ((∑ p : Fin 128, ((∑ k : Fin 128, ((∑ l : Fin 128, x2 (ix2 r l) * x8 (ix2 l k)) + x9 (ix2 0 k)) * x10 (ix2 k p)) + x11 (ix2 0 p))
            * x12 (ix2 p ⟨q.val, by have := q.isLt; omega⟩)) - x3 (ix2 r q)) := by
  pointwise [dsumOf, hidOf, k0_pay13, k0_pay10, k0_pay9, k0_pay7]

theorem keysOf_apply (x0 x1) (r : Fin 128) (j : Fin 8192) :
    keysOf (F := Ideal) x0 x1 (ix2 r j)
      = keyOf (rankWord (Ideal.ofBits .f32 0x40000000#32 * (∑ x : Fin 8, x0 (ix2 r x) * x1 (ix2 x j)) - (∑ x : Fin 8, x0 (ix2 r x) * x0 (ix2 r x))
          - ∑ x : Fin 8, x1 (ix2 x j) * x1 (ix2 x j))) j := by
  refine Eq.trans ?_ (show IntOp.addi (IntOp.muli (FloatOps.fptosi (F := Ideal) (φ := .f32) 32 (max (Ideal.ofBits .f32 0x40000000#32 * (∑ x : Fin 8, x0 (ix2 r x) * x1 (ix2 x j)) - (∑ x : Fin 8, x0 (ix2 r x) * x0 (ix2 r x))
          - ∑ x : Fin 8, x1 (ix2 x j) * x1 (ix2 x j)) (Ideal.ofBits .f32 0xC57FF000#32) * Ideal.ofBits .f32 0x42800000#32)) 8192#32) (IntOp.subi 8191#32 (BitVec.ofNat 32 j.val)) = _ from rfl)
  pointwise [keysOf, k0_pay1, k0_pay14, k0_pay15, k0_pay16, k0_pay17]

/-! ## What the host operations before it leave -/

/-- The coordinates padded with zeros to eight. -/
def padded (A : FVec Ideal S8192x3 .f32) : FVec Ideal S8192x8 .f32 :=
  pad S8192x8 ![0, 0] ![0, 5] ![0, 0] A (sitofp (F := Ideal) .f32 (constantI S_ 32 0#32)) pads_S8192x3_S8192x8_000_050 h_S_

variable (V : Valuation τ sig (Elt Ideal))

theorem reads_v0 : (StableHlo.after ops0 V (Proc.devRef .tc main_v0) : Vec Ideal S8192x8 .f32)
    = padded (V (Proc.devRef .tc main_arg0) : Vec Ideal S8192x3 .f32) := by
  after_results_simp <;> rfl
theorem reads_v1 : (StableHlo.after ops0 V (Proc.devRef .tc main_v1) : Vec Ideal S8x8192 .f32)
    = transpose S8x8192 [1, 0] (padded (V (Proc.devRef .tc main_arg0) : Vec Ideal S8192x3 .f32))
        transposes_S8192x8_S8x8192_1_0 := by
  after_results_simp <;> rfl
theorem reads_v2 : (StableHlo.after ops0 V (Proc.devRef .tc main_v2) : Vec Ideal S1x10 .f32)
    = shapeCast S1x10 (V (Proc.devRef .tc main_arg4) : Vec Ideal S10 .f32) shapeCasts_S10_S1x10 := by
  after_results_simp <;> rfl
theorem reads_v3 : (StableHlo.after ops0 V (Proc.devRef .tc main_v3) : Vec Ideal S1x10 .f32)
    = shapeCast S1x10 (V (Proc.devRef .tc main_arg6) : Vec Ideal S10 .f32) shapeCasts_S10_S1x10 := by
  after_results_simp <;> rfl
theorem reads_v4 : (StableHlo.after ops0 V (Proc.devRef .tc main_v4) : Vec Ideal S1x128 .f32)
    = shapeCast S1x128 (V (Proc.devRef .tc main_arg8) : Vec Ideal S128 .f32) shapeCasts_S128_S1x128 := by
  after_results_simp <;> rfl
theorem reads_v5 : (StableHlo.after ops0 V (Proc.devRef .tc main_v5) : Vec Ideal S1x128 .f32)
    = shapeCast S1x128 (V (Proc.devRef .tc main_arg10) : Vec Ideal S128 .f32) shapeCasts_S128_S1x128 := by
  after_results_simp <;> rfl

theorem row10_apply (x : Vec Ideal S10 .f32) (c : Fin 10) : shapeCast S1x10 x shapeCasts_S10_S1x10 (ix2 0 c) = x (ix1 c) := by
  pointwise
theorem row128_apply (x : Vec Ideal S128 .f32) (c : Fin 128) : shapeCast S1x128 x shapeCasts_S128_S1x128 (ix2 0 c) = x (ix1 c) := by
  pointwise

theorem padded_apply (A : Vec Ideal S8192x3 .f32) (i : Fin 8192) (k : Fin 8) :
    padded A (ix2 i k) = if h : k.val < 3 then A (ix2 i ⟨k.val, h⟩) else 0 := by
  have h0 : FloatOps.sitofp (F := Ideal) .f32 (0#32 : BitVec 32) = 0 := by
    show (((0#32 : BitVec 32).toInt : ℝ) : EReal) = 0
    simp
  rw [← h0]
  pointwise [padded]

theorem turned_apply (X : Vec Ideal S8192x8 .f32) (k : Fin 8) (i : Fin 8192) :
    transpose S8x8192 [1, 0] X transposes_S8192x8_S8x8192_1_0 (ix2 k i) = X (ix2 i k) := by
  pointwise

/-! ## The kernel's keys are the ranking's -/

theorem sum_padded (A : Vec Ideal S8192x3 .f32) (i j : Fin 8192) :
    (∑ x : Fin 8, padded A (ix2 i x) * padded A (ix2 j x)) = ∑ x : Fin 3, A (ix2 i x) * A (ix2 j x) := by
  simp only [padded_apply, Fin.sum_univ_eight, Fin.sum_univ_three]
  simp

variable (m : (ℓ : Loc nD τ sig) → Buf (Elt Ideal) ℓ) (d : Dev nD)

/-- The arguments of the program at the launch. -/
abbrev arg0 : Arr2 8192 3 := m (d, Proc.devRef .tc main_arg0)
abbrev arg1 : Arr2 8192 128 := m (d, Proc.devRef .tc main_arg1)
abbrev arg2 : Arr2 8192 3 := m (d, Proc.devRef .tc main_arg2)
abbrev arg3 : Arr2 128 10 := m (d, Proc.devRef .tc main_arg3)
abbrev arg4 : Arr1 10 := m (d, Proc.devRef .tc main_arg4)
abbrev arg5 : Arr2 128 10 := m (d, Proc.devRef .tc main_arg5)
abbrev arg6 : Arr1 10 := m (d, Proc.devRef .tc main_arg6)
abbrev arg7 : Arr2 128 128 := m (d, Proc.devRef .tc main_arg7)
abbrev arg8 : Arr1 128 := m (d, Proc.devRef .tc main_arg8)
abbrev arg9 : Arr2 128 128 := m (d, Proc.devRef .tc main_arg9)
abbrev arg10 : Arr1 128 := m (d, Proc.devRef .tc main_arg10)
abbrev arg11 : Arr2 128 15 := m (d, Proc.devRef .tc main_arg11)
/-- The fifteen predictions from the launch's arguments. -/
def predM : Fin 8192 → Fin 15 → EReal := pred (arg1 m d) (arg7 m d) (arg8 m d) (arg9 m d) (arg10 m d) (arg11 m d)

/-! ## The blocks' entries, from the arguments -/

theorem in_0 (t : Fin cfg0.N) (r : Fin 128) (k : Fin 8) : (iblk (V1 m) d 0 t : Vec Ideal S128x8 .f32) (ix2 r k) = padded (arg0 m d) (ix2 (rowOf t r) k) :=
  (congrFun (iblk_0 (V1 m) d t) (ix2 r k)).trans (congrFun (reads_v0 (V0 m d)) _)
theorem in_1 (t : Fin cfg0.N) (k : Fin 8) (j : Fin 8192) : (iblk (V1 m) d 1 t : Vec Ideal S8x8192 .f32) (ix2 k j) = padded (arg0 m d) (ix2 j k) :=
  (congrFun (iblk_1 (V1 m) d t) (ix2 k j)).trans ((congrFun (reads_v1 (V0 m d)) _).trans (turned_apply _ k j))
theorem in_2 (t : Fin cfg0.N) (r : Fin 128) (k : Fin 128) : (iblk (V1 m) d 2 t : Vec Ideal S128x128 .f32) (ix2 r k) = arg1 m d (ix2 (rowOf t r) k) :=
  (congrFun (iblk_2 (V1 m) d t) (ix2 r k)).trans (congrFun (V1_arg1 m d) _)
theorem in_3 (t : Fin cfg0.N) (r : Fin 128) (k : Fin 3) : (iblk (V1 m) d 3 t : Vec Ideal S128x3 .f32) (ix2 r k) = arg2 m d (ix2 (rowOf t r) k) :=
  (congrFun (iblk_3 (V1 m) d t) (ix2 r k)).trans (congrFun (V1_arg2 m d) _)
theorem in_4 (t : Fin cfg0.N) (r : Fin 128) (k : Fin 10) : (iblk (V1 m) d 4 t : Vec Ideal S128x10 .f32) (ix2 r k) = arg3 m d (ix2 r k) :=
  (congrFun (iblk_4 (V1 m) d t) (ix2 r k)).trans (congrFun (V1_arg3 m d) _)
theorem in_5 (t : Fin cfg0.N) (k : Fin 10) : (iblk (V1 m) d 5 t : Vec Ideal S1x10 .f32) (ix2 0 k) = arg4 m d (ix1 k) :=
  (congrFun (iblk_5 (V1 m) d t) (ix2 0 k)).trans ((congrFun (reads_v2 (V0 m d)) _).trans (row10_apply _ k))
theorem in_6 (t : Fin cfg0.N) (r : Fin 128) (k : Fin 10) : (iblk (V1 m) d 6 t : Vec Ideal S128x10 .f32) (ix2 r k) = arg5 m d (ix2 r k) :=
  (congrFun (iblk_6 (V1 m) d t) (ix2 r k)).trans (congrFun (V1_arg5 m d) _)
theorem in_7 (t : Fin cfg0.N) (k : Fin 10) : (iblk (V1 m) d 7 t : Vec Ideal S1x10 .f32) (ix2 0 k) = arg6 m d (ix1 k) :=
  (congrFun (iblk_7 (V1 m) d t) (ix2 0 k)).trans ((congrFun (reads_v3 (V0 m d)) _).trans (row10_apply _ k))
theorem in_8 (t : Fin cfg0.N) (r : Fin 128) (k : Fin 128) : (iblk (V1 m) d 8 t : Vec Ideal S128x128 .f32) (ix2 r k) = arg7 m d (ix2 r k) :=
  (congrFun (iblk_8 (V1 m) d t) (ix2 r k)).trans (congrFun (V1_arg7 m d) _)
theorem in_9 (t : Fin cfg0.N) (k : Fin 128) : (iblk (V1 m) d 9 t : Vec Ideal S1x128 .f32) (ix2 0 k) = arg8 m d (ix1 k) :=
  (congrFun (iblk_9 (V1 m) d t) (ix2 0 k)).trans ((congrFun (reads_v4 (V0 m d)) _).trans (row128_apply _ k))
theorem in_10 (t : Fin cfg0.N) (r : Fin 128) (k : Fin 128) : (iblk (V1 m) d 10 t : Vec Ideal S128x128 .f32) (ix2 r k) = arg9 m d (ix2 r k) :=
  (congrFun (iblk_10 (V1 m) d t) (ix2 r k)).trans (congrFun (V1_arg9 m d) _)
theorem in_11 (t : Fin cfg0.N) (k : Fin 128) : (iblk (V1 m) d 11 t : Vec Ideal S1x128 .f32) (ix2 0 k) = arg10 m d (ix1 k) :=
  (congrFun (iblk_11 (V1 m) d t) (ix2 0 k)).trans ((congrFun (reads_v5 (V0 m d)) _).trans (row128_apply _ k))
theorem in_12 (t : Fin cfg0.N) (r : Fin 128) (k : Fin 15) : (iblk (V1 m) d 12 t : Vec Ideal S128x15 .f32) (ix2 r k) = arg11 m d (ix2 r k) :=
  (congrFun (iblk_12 (V1 m) d t) (ix2 r k)).trans (congrFun (V1_arg11 m d) _)

/-! ## The results, row by row -/

theorem blk13 (t : Fin cfg0.N) (r : Fin 128) (c : Fin 10) :
    ((dats (V1 m) 0 d).after 13 t : Vec Ideal S128x10 .f32) (ix2 r c) = (∑ k : Fin 128, arg1 m d (ix2 (rowOf t r) k) * arg3 m d (ix2 k c)) + arg4 m d (ix1 c) := by
  dsimp only [dats]
  refine (pay6_apply _ _ _ r c).trans ?_
  simp only [in_2, in_4, in_5]

theorem blk14 (t : Fin cfg0.N) (r : Fin 128) (c : Fin 10) :
    ((dats (V1 m) 0 d).after 14 t : Vec Ideal S128x10 .f32) (ix2 r c)
      = (∑ k : Fin 128, hidden (arg1 m d) (arg7 m d) (arg8 m d) (rowOf t r) k * arg5 m d (ix2 k c)) + arg6 m d (ix1 c) := by
  dsimp only [dats]
  refine (pay8_apply _ _ _ _ _ r c).trans ?_
  simp only [in_2, in_8, in_9, in_6, in_7]
  rfl

theorem blk16 (t : Fin cfg0.N) (r : Fin 128) (c : Fin 12) :
    ((dats (V1 m) 0 d).after 16 t : Vec Ideal S128x12 .f32) (ix2 r c)
      = gray (arg2 m d) (rowOf t r) + predM m d (rowOf t r) ⟨3 + c.val, by have := c.isLt; omega⟩ := by
  dsimp only [dats]
  refine (tOf_apply _ _ _ _ _ _ _ r c).trans ?_
  simp only [in_2, in_3, in_8, in_9, in_10, in_11, in_12]
  rfl

theorem blk17 (t : Fin cfg0.N) (r : Fin 128) :
    ((dats (V1 m) 0 d).after 17 t : Vec Ideal S128x1 .f32) (ix2 r 0) = gray (arg2 m d) (rowOf t r) := by
  dsimp only [dats]
  refine (pay11_apply _ r).trans ?_
  simp only [in_3]
  rfl

theorem blk18 (t : Fin cfg0.N) (c : Fin 128) :
    ((dats (V1 m) 0 d).after 18 t : Vec Ideal S1x1x128 .f32) (ix3 0 0 c)
      = ∑ r : Fin 128, ∑ q : Fin 3, FloatOps.absf (F := Ideal) (φ := .f32) (predM m d (rowOf t r) ⟨q.val, by have := q.isLt; omega⟩ - arg2 m d (ix2 (rowOf t r) q)) := by
  dsimp only [dats]
  refine (dsumOf_apply _ _ _ _ _ _ _ c).trans ?_
  simp only [in_2, in_3, in_8, in_9, in_10, in_11, in_12]
  rfl

theorem keys_near (hA : Finite (arg0 m d)) (t : Fin cfg0.N) (r : Fin 128) (j : Fin 8192) :
    keysOf (F := Ideal) (iblk (V1 m) d 0 t) (iblk (V1 m) d 1 t) (ix2 r j) = keyOf (near (arg0 m d) (rowOf t r) j) j := by
  refine (keysOf_apply _ _ r j).trans ?_
  simp only [in_0, in_1, sum_padded]
  unfold near
  rw [minusDist_eq _ hA]

theorem blk15 (hA : Finite (arg0 m d)) (t : Fin cfg0.N) (r : Fin 128) (c : Fin 12) :
    ((dats (V1 m) 0 d).after 15 t : Vec Ideal S128x12 .i32) (ix2 r c) = BitVec.ofNat 32 (nbr (arg0 m d) (rowOf t r) c).val :=
  (congrFun (afterW_15 (V1 m) d t) _).trans
    (rounds_nearest (F := Ideal) _ r (near (arg0 m d) (rowOf t r)) (keys_near m d hA t r) (fun j => (near_range _ hA _ j).1) (fun j => (near_range _ hA _ j).2) c)

/-! ## The arrays -/

theorem res13 (i : Fin 8192) (c : Fin 10) : (V2 m d (Proc.devRef .tc main_v6_0) : Vec Ideal S8192x10 .f32) (ix2 i c)
    = (∑ k : Fin 128, arg1 m d (ix2 i k) * arg3 m d (ix2 k c)) + arg4 m d (ix1 c) :=
  (congrFun (fin_13 (V1 m) d) (ix2 i c)).trans ((blk13 m d (blkOf i) (inBlk i) c).trans (by rw [rowOf_blkOf]))
theorem res14 (i : Fin 8192) (c : Fin 10) : (V2 m d (Proc.devRef .tc main_v6_1) : Vec Ideal S8192x10 .f32) (ix2 i c)
    = (∑ k : Fin 128, hidden (arg1 m d) (arg7 m d) (arg8 m d) i k * arg5 m d (ix2 k c)) + arg6 m d (ix1 c) :=
  (congrFun (fin_14 (V1 m) d) (ix2 i c)).trans ((blk14 m d (blkOf i) (inBlk i) c).trans (by rw [rowOf_blkOf]))
theorem res15 (hA : Finite (arg0 m d)) (i : Fin 8192) (c : Fin 12) : (V2 m d (Proc.devRef .tc main_v6_2) : Vec Ideal S8192x12 .i32) (ix2 i c)
    = BitVec.ofNat 32 (nbr (arg0 m d) i c).val :=
  (congrFun (fin_15 (V1 m) d) (ix2 i c)).trans ((blk15 m d hA (blkOf i) (inBlk i) c).trans (by rw [rowOf_blkOf]))
theorem res16 (i : Fin 8192) (c : Fin 12) : (V2 m d (Proc.devRef .tc main_v6_3) : Vec Ideal S8192x12 .f32) (ix2 i c)
    = gray (arg2 m d) i + predM m d i ⟨3 + c.val, by have := c.isLt; omega⟩ :=
  (congrFun (fin_16 (V1 m) d) (ix2 i c)).trans ((blk16 m d (blkOf i) (inBlk i) c).trans (by rw [rowOf_blkOf]))
theorem res17 (i : Fin 8192) : (V2 m d (Proc.devRef .tc main_v6_4) : Vec Ideal S8192x1 .f32) (ix2 i 0) = gray (arg2 m d) i :=
  (congrFun (fin_17 (V1 m) d) (ix2 i 0)).trans ((blk17 m d (blkOf i) (inBlk i)).trans (by rw [rowOf_blkOf]))
theorem res18 (t : Fin 64) (c : Fin 128) : (V2 m d (Proc.devRef .tc main_v6_5) : Vec Ideal S64x1x128 .f32) (ix3 t 0 c)
    = ∑ r : Fin 128, ∑ q : Fin 3, FloatOps.absf (F := Ideal) (φ := .f32)
        (predM m d (rowOf ⟨t.val, t.isLt.trans_eq N_0.symm⟩ r) ⟨q.val, by have := q.isLt; omega⟩ - arg2 m d (ix2 (rowOf ⟨t.val, t.isLt.trans_eq N_0.symm⟩ r) q)) :=
  (congrFun (fin_18 (V1 m) d) (ix3 t 0 c)).trans (blk18 m d ⟨t.val, t.isLt.trans_eq N_0.symm⟩ c)

end Cert.Proof

end
-- ==== Proof.ValueSc.lean ====
/-
  What the SparseCore's kernel and the host operations after it make of the TensorCore kernel's results: the loss.
-/
module

public import proofs.«01_k».proof.Proof.ValueTc

@[expose] public section

set_option maxRecDepth 16384

noncomputable section

namespace Cert.Proof

open Cert.KernelIdeal Cert.KernelIdeal.Gen
open Idealize.ShloMosaic Idealize.ShloMosaic.Tactic

/-! ## A tile's sums -/

theorem sumsAt_apply (L : grid1.Coords) (G : Vec Ideal S8192 .f32) (X : Vec Ideal S98304 .i32) (U : Vec Ideal S98304 .f32) (j : S16.Idx) :
    ∀ n : ℕ, sumsAt (F := Ideal) L G X U n j
      = ∑ s ∈ Finset.range n, FloatOps.absf (F := Ideal) (φ := .f32) (G (ent (X (elt L s j))) - U (elt L s j))
  | 0 => by
    show Ideal.ofBits .f32 0x00000000#32 = _
    simp
  | n + 1 => by
    rw [Finset.sum_range_succ, ← sumsAt_apply L G X U j n]
    rfl

/-! ## All tiles' sums -/

/-- The place of neighbour `c` of point `i` in the flat list. -/
def flatIx (i : Fin 8192) (c : Fin 12) : Fin 98304 := ⟨12 * i.val + c.val, by have := i.isLt; have := c.isLt; omega⟩

/-- Lane `j` of the partial sums in round `s`, as a place in the flat list; together they are all places, each once. -/
def laneIx (j : Fin 512) (s : Fin 192) : Fin 98304 := ⟨3072 * (j.val / 16) + 16 * s.val + j.val % 16, by have := j.isLt; have := s.isLt; omega⟩

theorem sum_lanes (f : Fin 98304 → EReal) : (∑ j : Fin 512, ∑ s : Fin 192, f (laneIx j s)) = ∑ i : Fin 8192, ∑ c : Fin 12, f (flatIx i c) := by
  rw [← Fintype.sum_prod_type', ← Fintype.sum_prod_type']
  refine Fintype.sum_equiv
    { toFun := fun p => (⟨(laneIx p.1 p.2).val / 12, by have := (laneIx p.1 p.2).isLt; omega⟩, ⟨(laneIx p.1 p.2).val % 12, Nat.mod_lt _ (by decide)⟩)
      invFun := fun q => (⟨16 * ((flatIx q.1 q.2).val / 3072) + (flatIx q.1 q.2).val % 16, by have := (flatIx q.1 q.2).isLt; omega⟩,
        ⟨(flatIx q.1 q.2).val % 3072 / 16, by omega⟩)
      left_inv := ?_, right_inv := ?_ } _ _ ?_
  · rintro ⟨⟨j, hj⟩, ⟨s, hs⟩⟩
    simp only [laneIx, flatIx, Prod.mk.injEq, Fin.mk.injEq]
    omega
  · rintro ⟨⟨i, hi⟩, ⟨c, hc⟩⟩
    simp only [laneIx, flatIx, Prod.mk.injEq, Fin.mk.injEq]
    omega
  · rintro ⟨⟨j, hj⟩, ⟨s, hs⟩⟩
    refine congrArg f (Fin.ext ?_)
    simp only [laneIx, flatIx, Equiv.coe_fn_mk]
    omega

theorem elt_lane (j : Fin 512) (s : Fin 192) :
    elt (coordsV ⟨j.val / 16 % 2, Nat.mod_lt _ (by decide)⟩ ⟨j.val / 32, by have := j.isLt; show j.val / 32 < 16; omega⟩) s.val (ix1 ⟨j.val % 16, Nat.mod_lt _ (by decide)⟩)
      = ix1 (laneIx j s) := by
  refine funext fun a => Fin.ext ?_
  have ha : a = 0 := Subsingleton.elim _ _
  subst ha
  show (6144 * (j.val / 32) + 3072 * (j.val / 16 % 2) + 16 * s.val + j.val % 16) % 98304 = 3072 * (j.val / 16) + 16 * s.val + j.val % 16
  have := j.isLt; have := s.isLt
  have h2 : j.val / 32 = j.val / 16 / 2 := (Nat.div_div_eq_div_mul j.val 16 2).symm
  omega

/-- The partial sums add up to the sum over all places of the list. -/
theorem sum_partials (G : Vec Ideal S8192 .f32) (X : Vec Ideal S98304 .i32) (U : Vec Ideal S98304 .f32) :
    (∑ j : Fin 512, partials (F := Ideal) G X U (ix1 j))
      = ∑ i : Fin 8192, ∑ c : Fin 12, FloatOps.absf (F := Ideal) (φ := .f32) (G (ent (X (ix1 (flatIx i c)))) - U (ix1 (flatIx i c))) := by
  rw [← sum_lanes (fun n => FloatOps.absf (F := Ideal) (φ := .f32) (G (ent (X (ix1 n))) - U (ix1 n)))]
  refine Finset.sum_congr rfl fun j _ => ?_
  refine (sumsAt_apply _ G X U _ 192).trans ?_
  rw [Finset.sum_range]
  refine Finset.sum_congr rfl fun s _ => ?_
  exact congrArg (fun q : S98304.Idx => FloatOps.absf (F := Ideal) (φ := .f32) (G (ent (X q)) - U q)) (elt_lane j s)

/-! ## The lists the SparseCore reads -/

theorem flat_apply {α : Type} (x : S8192x12.Idx → α) (i : Fin 8192) (c : Fin 12) :
    shapeCast S98304 x shapeCasts_S8192x12_S98304 (ix1 (flatIx i c)) = x (ix2 i c) := by
  refine shapeCast_apply _ _ _ _ ?_
  rw [Shape.rowMajor_val_two, Shape.rowMajor_val_one]
  show i.val * 12 + c.val = 12 * i.val + c.val
  omega

theorem column_apply {α : Type} (x : S8192x1.Idx → α) (i : Fin 8192) :
    shapeCast S8192 x shapeCasts_S8192x1_S8192 (ix1 i) = x (ix2 i 0) := by
  pointwise

/-! ## The host operations after it -/

theorem reads_v18 (W : Valuation τ sig (Elt Ideal)) : (StableHlo.after ops2 W (Proc.devRef .tc main_v18) : Vec Ideal S_ .f32)
    = addf (F := Ideal) (φ := .f32)
        (Host.divf (Host.reduceAdd (shapeCast S64 (extractStridedSlice S64x1x1 ![0, 0, 0] (W (Proc.devRef .tc main_v6_5) : FVec Ideal S64x1x128 .f32) slices_S64x1x128_S64x1x1_0_0_0) shapeCasts_S64x1x1_S64)
          (constant S_ .f32 0x00000000#32) reducesTo_S64_S_d0 h_S_) (constant S_ .f32 0x46C00000#32))
        (mulf (constant S_ .f32 0x3DCCCCCD#32)
          (Host.divf (Host.reduceAdd (W (Proc.devRef .tc main_v10) : FVec Ideal S512 .f32) (constant S_ .f32 0x00000000#32) reducesTo_S512_S_d0 h_S_) (constant S_ .f32 0x47C00000#32))) := by
  after_results_simp <;> rfl

theorem ends_apply (D : FVec Ideal S64x1x128 .f32) (P : FVec Ideal S512 .f32) (z : S_.Idx) :
    addf (F := Ideal) (φ := .f32)
        (Host.divf (Host.reduceAdd (shapeCast S64 (extractStridedSlice S64x1x1 ![0, 0, 0] D slices_S64x1x128_S64x1x1_0_0_0) shapeCasts_S64x1x1_S64)
          (constant S_ .f32 0x00000000#32) reducesTo_S64_S_d0 h_S_) (constant S_ .f32 0x46C00000#32))
        (mulf (constant S_ .f32 0x3DCCCCCD#32)
          (Host.divf (Host.reduceAdd P (constant S_ .f32 0x00000000#32) reducesTo_S512_S_d0 h_S_) (constant S_ .f32 0x47C00000#32))) z
      = Ideal.div (∑ t : Fin 64, D (ix3 t 0 0)) (Ideal.ofBits .f32 0x46C00000#32)
        + Ideal.ofBits .f32 0x3DCCCCCD#32 * Ideal.div (∑ j : Fin 512, P (ix1 j)) (Ideal.ofBits .f32 0x47C00000#32) := by
  pointwise

/-! ## The loss -/

variable (m : (ℓ : Loc nD τ sig) → Buf (Elt Ideal) ℓ) (d : Dev nD)

theorem Gd_apply (i : Fin 8192) : Gd m d (ix1 i) = gray (arg2 m d) i :=
  (congrFun (reads_v7 (V2 m d)) _).trans ((column_apply _ i).trans (res17 m d i))

theorem Ud_apply (i : Fin 8192) (c : Fin 12) : Ud m d (ix1 (flatIx i c)) = gray (arg2 m d) i + predM m d i ⟨3 + c.val, by have := c.isLt; omega⟩ :=
  (congrFun (reads_v9 (V2 m d)) _).trans ((flat_apply _ i c).trans (res16 m d i c))

theorem Xd_apply (hA : Finite (arg0 m d)) (i : Fin 8192) (c : Fin 12) : Xd m d (ix1 (flatIx i c)) = BitVec.ofNat 32 (nbr (arg0 m d) i c).val :=
  (congrFun (reads_v8 (V2 m d)) _).trans ((flat_apply _ i c).trans (res15 m d hA i c))

theorem ent_ofNat (k : Fin 8192) : ent (BitVec.ofNat 32 k.val) = ix1 k := by
  refine funext fun a => Fin.ext ?_
  have ha : a = 0 := Subsingleton.elim _ _
  subst ha
  show (BitVec.ofNat 32 k.val).toNat % 8192 = k.val
  have := k.isLt
  simp only [BitVec.toNat_ofNat]
  omega

/-- The partial sums add up to the edges' deviations. -/
theorem sum_edges (hA : Finite (arg0 m d)) :
    (∑ j : Fin 512, partials (F := Ideal) (Gd m d) (Xd m d) (Ud m d) (ix1 j)) = edgeSum (arg0 m d) (arg2 m d) (predM m d) := by
  refine (sum_partials _ _ _).trans ?_
  refine Finset.sum_congr rfl fun i _ => Finset.sum_congr rfl fun c _ => ?_
  refine Eq.trans ?_ (absf_sub_add _ _ _)
  have e : Gd m d (ent (Xd m d (ix1 (flatIx i c)))) = gray (arg2 m d) (nbr (arg0 m d) i c) :=
    (congrArg (fun w => Gd m d (ent w)) (Xd_apply m d hA i c)).trans ((congrArg (Gd m d) (ent_ofNat _)).trans (Gd_apply m d _))
  exact congrArg₂ (fun a b : EReal => FloatOps.absf (F := Ideal) (φ := .f32) (a - b)) e (Ud_apply m d i c)

theorem sum_rows (f : Fin 8192 → EReal) : (∑ t : Fin 64, ∑ r : Fin 128, f (rowOf ⟨t.val, t.isLt.trans_eq N_0.symm⟩ r)) = ∑ i : Fin 8192, f i := by
  rw [← Fintype.sum_prod_type']
  refine Fintype.sum_equiv
    { toFun := fun p => rowOf ⟨p.1.val, p.1.isLt.trans_eq N_0.symm⟩ p.2
      invFun := fun i => (⟨i.val / 128, by have := i.isLt; omega⟩, inBlk i)
      left_inv := ?_, right_inv := fun i => rowOf_blkOf i } _ _ fun _ => rfl
  rintro ⟨t, r⟩
  refine Prod.ext (Fin.ext ?_) (inBlk_rowOf _ r)
  show (128 * t.val + r.val) / 128 = t.val
  have := r.isLt
  omega

/-- The blocks' colour sums, as the TensorCore's kernel leaves them. -/
def Dd : FVec Ideal S64x1x128 .f32 := V2 m d (Proc.devRef .tc main_v6_5)

/-- The blocks' sums add up to the colours' deviations. -/
theorem sum_colours : (∑ t : Fin 64, Dd m d (ix3 t 0 0)) = colourSum (arg2 m d) (predM m d) :=
  (Finset.sum_congr (M := EReal) rfl fun t _ => res18 m d t 0).trans
    (sum_rows fun i => ∑ q : Fin 3, FloatOps.absf (F := Ideal) (φ := .f32) (predM m d i ⟨q.val, by have := q.isLt; omega⟩ - arg2 m d (ix2 i q)))

theorem V4_v6 (r : Ref sig .tc) (h4 : Proc.devRef (τ := τ) .tc r ≠ Proc.devRef .tc main_v10) (h3 : r ≠ main_v7 ∧ r ≠ main_v8 ∧ r ≠ main_v9) :
    V4 m d (Proc.devRef .tc r) = V2 m d (Proc.devRef .tc r) :=
  (V4_off m d _ h4).trans (keeps1 _ r h3)

/-- The kernel's third result is the loss. -/
theorem res_loss (hA : Finite (arg0 m d)) (z : S_.Idx) :
    (V5 m d (Proc.devRef .tc main_v18) : Vec Ideal S_ .f32) z = loss (arg0 m d) (arg2 m d) (predM m d) := by
  refine (congrFun (reads_v18 (V4 m d)) z).trans ((ends_apply _ _ z).trans ?_)
  have e5 : V4 m d (Proc.devRef .tc main_v6_5) = Dd m d :=
    V4_v6 m d main_v6_5 (StableHlo.devRef_ne_of_ne (by decide)) (by decide)
  have e10 : V4 m d (Proc.devRef .tc main_v10) = partials (F := Ideal) (Gd m d) (Xd m d) (Ud m d) := V4_on m d
  exact congrArg₂ (fun a b : EReal => Ideal.div a (Ideal.ofBits .f32 0x46C00000#32) + Ideal.ofBits .f32 0x3DCCCCCD#32 * Ideal.div b (Ideal.ofBits .f32 0x47C00000#32))
    ((congrArg (fun f : FVec Ideal S64x1x128 .f32 => ∑ t : Fin 64, f (ix3 t 0 0)) e5).trans (sum_colours m d))
    ((congrArg (fun f : FVec Ideal S512 .f32 => ∑ j : Fin 512, f (ix1 j)) e10).trans (sum_edges m d hA))

/-- The first two results, at the end. -/
theorem V5_v6_0 : V5 m d (Proc.devRef .tc main_v6_0) = V2 m d (Proc.devRef .tc main_v6_0) :=
  (keeps2 _ main_v6_0 (by decide)).trans (V4_v6 m d main_v6_0 (StableHlo.devRef_ne_of_ne (by decide)) (by decide))
theorem V5_v6_1 : V5 m d (Proc.devRef .tc main_v6_1) = V2 m d (Proc.devRef .tc main_v6_1) :=
  (keeps2 _ main_v6_1 (by decide)).trans (V4_v6 m d main_v6_1 (StableHlo.devRef_ne_of_ne (by decide)) (by decide))

end Cert.Proof

end
-- ==== Proof.Algebraic.lean ====
/-
  The value claims: from a memory whose coordinates are finite, the kernel and the reference leave the same three results; from one
  whose coordinates lie on the grid, so do the kernel and the reference that ranks by the distances themselves.
-/
module

public import proofs.«01_k».proof.Defs
public import proofs.«01_k».proof.Proof.Gen.Pre_xyz_finite
public import proofs.«01_k».proof.Proof.Gen.ReferenceIdeal.Run
public import proofs.«01_k».proof.Proof.Frames
public import proofs.«01_k».proof.Proof.RefMath
public import proofs.«01_k».proof.Proof.ExactMath
public import proofs.«01_k».proof.Proof.ValueSc
public import Idealize.ShloMosaic.Lib.ReduceAll

@[expose] public section

set_option maxRecDepth 16384

noncomputable section

namespace Cert.Proof

open Idealize.ShloMosaic Idealize.ShloMosaic.Tactic
open Idealize.SL.Sem

/-! ## What the precondition gives -/

/-- A value whose magnitude lies below infinity is a real number. -/
theorem real_of_lt_top (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have hlt : max x (-x) < ⊤ := by
    by_contra hn
    unfold Ideal.cmp at h1
    simp [hn] at h1
  rw [max_lt_iff] at hlt
  refine (EReal.coe_toReal hlt.1.ne ?_).symm
  rintro rfl
  simp at hlt

theorem finite_of_pre (m : (ℓ : Loc Cert.KernelIdeal.nD Cert.KernelIdeal.τ Cert.KernelIdeal.sig) → Buf (Elt Ideal) ℓ)
    (h : Cert.Pre_KernelIdeal_xyz_finite m) (d : Dev Cert.KernelIdeal.nD) : Finite (arg0 m d) := by
  refine ⟨fun i k => (arg0 m d (ix2 i k)).toReal, fun i k => real_of_lt_top _ ?_⟩
  have z : Cert.Pre_xyz_finite.S_.Idx := fun a => a.elim0
  haveI : Subsingleton Cert.Pre_xyz_finite.S_.Idx := ⟨fun a b => funext fun q => q.elim0⟩
  have e := congrFun (h d) z
  exact Host.reduce_andi_all _ _ _ _ z e (ix2 i k)

/-! ## The reference's results are the kernel's -/

section
variable (m : (ℓ : Loc Cert.KernelIdeal.nD Cert.KernelIdeal.τ Cert.KernelIdeal.sig) → Buf (Elt Ideal) ℓ) (d : Dev Cert.KernelIdeal.nD)

open Cert.ReferenceIdeal Cert.ReferenceIdeal.Gen in
theorem same_0 (A1 : FVec Ideal S8192x128 .f32) (A3 : FVec Ideal S128x10 .f32) (A4 : FVec Ideal S10 .f32)
    (e1 : A1 = arg1 m d) (e3 : A3 = arg3 m d) (e4 : A4 = arg4 m d) :
    addf (Host.dotGeneral dot_S8192x128_S128x10_S8192x10_1_0_0_1_n_n none A1 A3) (broadcastInDim S8192x10 ![0, 1] bcast_S1x10_S8192x10_0_1 (broadcastInDim S1x10 ![1] bcast_S10_S1x10_1 A4))
      = (V5 m d (Proc.devRef .tc Cert.KernelIdeal.main_v6_0) : FVec Ideal S8192x10 .f32) := by
  subst e1; subst e3; subst e4
  funext j
  rw [eq_ix2 j]
  exact (Ref.out0_apply _ _ _ (j 0) (j 1)).trans ((res13 m d (j 0) (j 1)).symm.trans (congrFun (V5_v6_0 m d).symm (ix2 (j 0) (j 1))))

open Cert.ReferenceIdeal Cert.ReferenceIdeal.Gen in
theorem same_1 (A1 : FVec Ideal S8192x128 .f32) (A7 : FVec Ideal S128x128 .f32) (A8 : FVec Ideal S128 .f32) (A5 : FVec Ideal S128x10 .f32) (A6 : FVec Ideal S10 .f32)
    (e1 : A1 = arg1 m d) (e7 : A7 = arg7 m d) (e8 : A8 = arg8 m d) (e5 : A5 = arg5 m d) (e6 : A6 = arg6 m d) :
    addf (Host.dotGeneral dot_S8192x128_S128x10_S8192x10_1_0_0_1_n_n none (Ref.hidOf A1 A7 A8) A5) (broadcastInDim S8192x10 ![0, 1] bcast_S1x10_S8192x10_0_1 (broadcastInDim S1x10 ![1] bcast_S10_S1x10_1 A6))
      = (V5 m d (Proc.devRef .tc Cert.KernelIdeal.main_v6_1) : FVec Ideal S8192x10 .f32) := by
  subst e1; subst e7; subst e8; subst e5; subst e6
  funext j
  rw [eq_ix2 j]
  exact (Ref.out1_apply _ _ _ _ _ (j 0) (j 1)).trans ((res14 m d (j 0) (j 1)).symm.trans (congrFun (V5_v6_1 m d).symm (ix2 (j 0) (j 1))))

theorem same_2 (hA : Finite (arg0 m d)) (A0 A2 : Arr2 8192 3) (A1 : Arr2 8192 128) (A7 : Arr2 128 128) (A8 : Arr1 128) (A9 : Arr2 128 128) (A10 : Arr1 128) (A11 : Arr2 128 15)
    (e0 : A0 = arg0 m d) (e1 : A1 = arg1 m d) (e2 : A2 = arg2 m d) (e7 : A7 = arg7 m d) (e8 : A8 = arg8 m d) (e9 : A9 = arg9 m d) (e10 : A10 = arg10 m d)
    (e11 : A11 = arg11 m d) (z : Cert.KernelIdeal.S_.Idx) :
    loss A0 A2 (pred A1 A7 A8 A9 A10 A11) = (V5 m d (Proc.devRef .tc Cert.KernelIdeal.main_v18) : FVec Ideal Cert.KernelIdeal.S_ .f32) z := by
  subst e0; subst e1; subst e2; subst e7; subst e8; subst e9; subst e10; subst e11
  exact (res_loss m d hA z).symm

end

/-- The kernel's three results, at the end of its run. -/
theorem kernel_ends (m : (ℓ : Loc Cert.KernelIdeal.nD Cert.KernelIdeal.τ Cert.KernelIdeal.sig) → Buf (Elt Ideal) ℓ)
    (x : PUnit × MemSt Cert.KernelIdeal.nD Cert.KernelIdeal.τ Cert.KernelIdeal.sig (Elt Ideal)) (h : QC (F := Ideal) m x) (c : Dev Cert.KernelIdeal.nD) :
    x.2.mem (c, Proc.devRef .tc Cert.KernelIdeal.main_v6_0) = V5 m c (Proc.devRef .tc Cert.KernelIdeal.main_v6_0)
    ∧ x.2.mem (c, Proc.devRef .tc Cert.KernelIdeal.main_v6_1) = V5 m c (Proc.devRef .tc Cert.KernelIdeal.main_v6_1)
    ∧ x.2.mem (c, Proc.devRef .tc Cert.KernelIdeal.main_v18) = V5 m c (Proc.devRef .tc Cert.KernelIdeal.main_v18) :=
  ⟨h.1 c (Proc.devRef .tc Cert.KernelIdeal.main_v6_0) (Finset.mem_filter.mpr ⟨StableHlo.devRef_mem_tcRefs Cert.KernelIdeal.main_v6_0, by decide⟩),
    h.1 c (Proc.devRef .tc Cert.KernelIdeal.main_v6_1) (Finset.mem_filter.mpr ⟨StableHlo.devRef_mem_tcRefs Cert.KernelIdeal.main_v6_1, by decide⟩),
    h.1 c (Proc.devRef .tc Cert.KernelIdeal.main_v18) (Finset.mem_filter.mpr ⟨StableHlo.devRef_mem_tcRefs Cert.KernelIdeal.main_v18, by decide⟩)⟩

/-- The kernel and the reference, from agreeing arguments with finite coordinates, leave the same three results. -/
theorem algebraic : Cert.algebraic_KernelIdeal_ReferenceIdeal_pre_xyz_finite := by
  intro m g m' g' hpre hagree
  refine ⟨fun c => V5 m c (Proc.devRef .tc Cert.KernelIdeal.main_v6_0), fun c => V5 m c (Proc.devRef .tc Cert.KernelIdeal.main_v6_1),
    fun c => V5 m c (Proc.devRef .tc Cert.KernelIdeal.main_v18), ?_, ?_⟩
  · exact (θ_run (Cert.KernelIdeal.defs (F := Ideal)) _ _).mono (fun x (h : QC (F := Ideal) m x) => fun c =>
      ⟨(kernel_ends m x h c).1, (kernel_ends m x h c).2.1, (kernel_ends m x h c).2.2, args_kept (F := Ideal) m x h c⟩) (run_main (F := Ideal) m g (hX (F := Ideal) m))
  · refine (θ_run Cert.ReferenceIdeal.defs _ _).mono (fun x h => fun c => ?_) (Cert.ReferenceIdeal.Value.run (F := Ideal) m' g')
    obtain ⟨r0, r1, r2, hk⟩ := h c
    obtain ⟨e0, e1, e2, e3, e4, e5, e6, e7, e8, e9, e10, e11⟩ := hagree c
    refine ⟨r0.trans ?_, r1.trans ?_, r2.trans ?_, hk⟩
    · exact same_0 m c _ _ _ e1 e3 e4
    · exact same_1 m c _ _ _ _ _ e1 e7 e8 e5 e6
    · exact funext fun z => (Ref.res_main_v53_apply m' c z).trans (same_2 m c (finite_of_pre m hpre c) _ _ _ _ _ _ _ _ e0 e1 e2 e7 e8 e9 e10 e11 z)

theorem onGrid_of_pre (m : (ℓ : Loc Cert.KernelIdeal.nD Cert.KernelIdeal.τ Cert.KernelIdeal.sig) → Buf (Elt Ideal) ℓ)
    (h : Cert.Pre_KernelIdeal_on_grid m) (d : Dev Cert.KernelIdeal.nD) : OnGrid (arg0 m d) :=
  onGrid_of_fn _ _ _ _ _ _ _ _ _ _ _ _ (fun a => a.elim0) (congrFun (h d) _)

/-- The kernel and the reference that ranks by the distances themselves, from agreeing arguments with coordinates on the grid,
    leave the same three results. -/
theorem algebraic_exact : Cert.algebraic_KernelIdeal_ExactIdeal_pre_on_grid := by
  intro m g m' g' hpre hagree
  refine ⟨fun c => V5 m c (Proc.devRef .tc Cert.KernelIdeal.main_v6_0), fun c => V5 m c (Proc.devRef .tc Cert.KernelIdeal.main_v6_1),
    fun c => V5 m c (Proc.devRef .tc Cert.KernelIdeal.main_v18), ?_, ?_⟩
  · exact (θ_run (Cert.KernelIdeal.defs (F := Ideal)) _ _).mono (fun x (h : QC (F := Ideal) m x) => fun c =>
      ⟨(kernel_ends m x h c).1, (kernel_ends m x h c).2.1, (kernel_ends m x h c).2.2, args_kept (F := Ideal) m x h c⟩) (run_main (F := Ideal) m g (hX (F := Ideal) m))
  · refine (θ_run Cert.ExactIdeal.defs _ _).mono (fun x h => fun c => ?_) (Cert.ExactIdeal.Value.run (F := Ideal) m' g')
    obtain ⟨r0, r1, r2, hk⟩ := h c
    obtain ⟨e0, e1, e2, e3, e4, e5, e6, e7, e8, e9, e10, e11⟩ := hagree c
    have hg : OnGrid (arg0 m c) := onGrid_of_pre m hpre c
    refine ⟨r0.trans ?_, r1.trans ?_, r2.trans ?_, hk⟩
    · exact same_0 m c _ _ _ e1 e3 e4
    · exact same_1 m c _ _ _ _ _ e1 e7 e8 e5 e6
    · exact funext fun z => (res_main_v48_apply m' c (Eq.mpr (congrArg OnGrid e0) hg) z).trans
        (same_2 m c hg.finite _ _ _ _ _ _ _ _ e0 e1 e2 e7 e8 e9 e10 e11 z)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_xyz_finite
public import proofs.«01_k».proof.Proof.Gen.Pre_on_grid
public import proofs.«01_k».proof.Proof.Gen.ExactIdeal
public import proofs.«01_k».proof.Proof.Gen.ExactIdeal.Run
public import proofs.«01_k».proof.Proof.Frames
public import proofs.«01_k».proof.Proof.FrameP
public import proofs.«01_k».proof.Proof.RefFrame
public import proofs.«01_k».proof.Proof.Algebraic

@[expose] public section

noncomputable section

namespace Cert.Proof

/-- The certificate. -/
theorem claim : Cert.Claim :=
  ⟨Cert.Kernel.Gen.facts, Cert.KernelIdeal.Gen.facts, Cert.ReferenceIdeal.Gen.facts, Cert.ExactIdeal.Gen.facts, Cert.Pre_xyz_finite.Gen.facts,
    Cert.Pre_on_grid.Gen.facts,
    frame_kernel, frame_kernelIdeal, fun m ρ _ => frame_kernelIdeal m ρ trivial, fun m ρ _ => frame_kernelIdeal m ρ trivial,
    frame_reference, fun m ρ _ => frame_reference m ρ trivial, frame_exact, fun m ρ _ => frame_exact m ρ trivial,
    trivial, algebraic, algebraic_exact⟩

end Cert.Proof

end
